-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_lags_determined [hPre_top_lags_determined : Cert.Pre_top_lags_determined.Facts] (m : (ℓ : Loc Cert.KernelIdeal.nD Cert.KernelIdeal.τ Cert.KernelIdeal.sig) → Buf (Elt Ideal) ℓ) : Prop :=
  ∀ c : Dev Cert.KernelIdeal.nD,
    (Cert.Pre_top_lags_determined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_lags_determined [hPre_top_lags_determined : Cert.Pre_top_lags_determined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_lags_determined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_top_lags_determined [hKernelIdeal : Cert.KernelIdeal.Facts] [hPre_top_lags_determined : Cert.Pre_top_lags_determined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_lags_determined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_top_lags_determined [hReferenceIdeal : Cert.ReferenceIdeal.Facts] [hPre_top_lags_determined : Cert.Pre_top_lags_determined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_lags_determined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_top_lags_determined [hKernelIdeal : Cert.KernelIdeal.Facts] [hReferenceIdeal : Cert.ReferenceIdeal.Facts] [hPre_top_lags_determined : Cert.Pre_top_lags_determined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_lags_determined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_top_lags_determined : Cert.Pre_top_lags_determined.Facts),
    quiescent_Kernel (hKernel := hKernel)
    ∧ quiescent_KernelIdeal (hKernelIdeal := hKernelIdeal)
    ∧ quiescent_KernelIdeal_pre_top_lags_determined (hKernelIdeal := hKernelIdeal) (hPre_top_lags_determined := hPre_top_lags_determined)
    ∧ quiescent_ReferenceIdeal (hReferenceIdeal := hReferenceIdeal)
    ∧ quiescent_ReferenceIdeal_pre_top_lags_determined (hReferenceIdeal := hReferenceIdeal) (hPre_top_lags_determined := hPre_top_lags_determined)
    ∧ preserves_Kernel_KernelIdeal
    ∧ algebraic_KernelIdeal_ReferenceIdeal_pre_top_lags_determined (hKernelIdeal := hKernelIdeal) (hReferenceIdeal := hReferenceIdeal) (hPre_top_lags_determined := hPre_top_lags_determined)
-- ==== Pre_top_lags_determined.lean ====
abbrev S2x2048x1024 : Shape := ⟨3, ![2, 2048, 1024]⟩
abbrev S1024x64 : Shape := ⟨2, ![1024, 64]⟩
abbrev S64 : Shape := ⟨1, ![64]⟩
abbrev S1024x1024 : Shape := ⟨2, ![1024, 1024]⟩
abbrev S1024 : Shape := ⟨1, ![1024]⟩
abbrev S2x2048x64 : Shape := ⟨3, ![2, 2048, 64]⟩
abbrev S1x1x64 : Shape := ⟨3, ![1, 1, 64]⟩
abbrev S2048x2048 : Shape := ⟨2, ![2048, 2048]⟩
abbrev S4194304 : Shape := ⟨1, ![4194304]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S2048x2048x1 : Shape := ⟨3, ![2048, 2048, 1]⟩

class Facts : Prop where
  bcast_S64_S1x1x64_2 : S64.BroadcastsInDim S1x1x64 (![2] : Fin 1 → Fin S1x1x64.rank)
  bcast_S1x1x64_S2x2048x64_0_1_2 : S1x1x64.BroadcastsInDim S2x2048x64 (![0, 1, 2] : Fin 3 → Fin S2x2048x64.rank)
  shapeCasts_S2048x2048_S4194304 : S2048x2048.ShapeCasts S4194304
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  reducesTo_S2048x2048_S2048_d1 : S2048x2048.ReducesTo [1] S2048
  h_S_ : 0 < S_.numel
  natLt_1_32 : 1 < 32
  bcast_S_S2048 : S_.BroadcastsInDim S2048 (![] : Fin 0 → Fin S2048.rank)
  reducesTo_S2048_S_d0 : S2048.ReducesTo [0] S_
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  dot_S2x2048x1024_S1024x64_S2x2048x64_2_0_01_1_n_n_wf : DotDims.WF S2x2048x1024 S1024x64 S2x2048x64 [2] [0] [0, 1] [1] [] []
  dot_S2x2048x64_S2x2048x64_S2048x2048_02_02_1_1_n_n_wf : DotDims.WF S2x2048x64 S2x2048x64 S2048x2048 [0, 2] [0, 2] [1] [1] [] []
  gather_S4194304_S2048x2048x1_S2048x2048_n_0_n_n_0_2_1_wf : GatherDims.WF S4194304 S2048x2048x1 S2048x2048 [] [0] [] [0] [] 2 ![1]

variable [Facts]

def dot_S2x2048x1024_S1024x64_S2x2048x64_2_0_01_1_n_n : DotDims S2x2048x1024 S1024x64 S2x2048x64 where
  lhsContracting := [2]
  rhsContracting := [0]
  lhsNonContracting := [0, 1]
  rhsNonContracting := [1]
  lhsBatch := []
  rhsBatch := []
  wf := dot_S2x2048x1024_S1024x64_S2x2048x64_2_0_01_1_n_n_wf
def dot_S2x2048x64_S2x2048x64_S2048x2048_02_02_1_1_n_n : DotDims S2x2048x64 S2x2048x64 S2048x2048 where
  lhsContracting := [0, 2]
  rhsContracting := [0, 2]
  lhsNonContracting := [1]
  rhsNonContracting := [1]
  lhsBatch := []
  rhsBatch := []
  wf := dot_S2x2048x64_S2x2048x64_S2048x2048_02_02_1_1_n_n_wf
def gather_S4194304_S2048x2048x1_S2048x2048_n_0_n_n_0_2_1 : GatherDims S4194304 S2048x2048x1 S2048x2048 where
  offsetDims := []
  collapsedSliceDims := [0]
  operandBatchingDims := []
  startIndicesBatchingDims := []
  startIndexMap := [0]
  indexVectorDim := 2
  sliceSizes := ![1]
  wf := gather_S4194304_S2048x2048x1_S2048x2048_n_0_n_n_0_2_1_wf
def fn_take {F : FTy → Type} [FloatOps F] (arg0 : FVec F S4194304 .f32) (arg1 : IVec S2048x2048 32) : FVec F S2048x2048 .f32 :=
  let v0 : IVec S2048x2048x1 32 := broadcastInDim S2048x2048x1 ![0, 1] bcast_S2048x2048_S2048x2048x1_0_1 arg1
  let v1 : FVec F S2048x2048 .f32 := (fun x i => Host.gather gather_S4194304_S2048x2048x1_S2048x2048_n_0_n_n_0_2_1 x i) arg0 v0
  v1

def fn_part2 {F : FTy → Type} [FloatOps F] (main_arg1 : FVec F S2x2048x1024 .f32) (main_arg3 : FVec F S1024x64 .f32) (main_arg4 : FVec F S64 .f32) (main_v35 : IVec S_ 32) (main_v39 : IVec S_ 1) : IVec S_ 1 :=
  let main_v40 : FVec F S2x2048x1024 .f32 := Host.absf main_arg1
  let main_cst_6 : FVec F S_ .f32 := constant S_ .f32 0x7F800000#32
  let main_v41 : FVec F S2x2048x1024 .f32 := broadcastInDim S2x2048x1024 ![] bcast_S_S2x2048x1024 main_cst_6
  let main_v42 : IVec S2x2048x1024 1 := cmpf .olt main_v40 main_v41
  let main_c_7 : IVec S_ 1 := constantI S_ 1 1#1
  let main_v43 : IVec S_ 1 := (fun x v => Host.reduce IntOp.andi x v reducesTo_S2x2048x1024_S_d0_1_2 h_S_) main_v42 main_c_7
  let main_v44 : FVec F S1024x64 .f32 := Host.absf main_arg3
  let main_cst_8 : FVec F S_ .f32 := constant S_ .f32 0x7F800000#32
  let main_v45 : FVec F S1024x64 .f32 := broadcastInDim S1024x64 ![] bcast_S_S1024x64 main_cst_8
  let main_v46 : IVec S1024x64 1 := cmpf .olt main_v44 main_v45
  let main_c_9 : IVec S_ 1 := constantI S_ 1 1#1
  let main_v47 : IVec S_ 1 := (fun x v => Host.reduce IntOp.andi x v reducesTo_S1024x64_S_d0_1 h_S_) main_v46 main_c_9
  let main_v48 : FVec F S64 .f32 := Host.absf main_arg4
  let main_cst_10 : FVec F S_ .f32 := constant S_ .f32 0x7F800000#32
  let main_v49 : FVec F S64 .f32 := broadcastInDim S64 ![] bcast_S_S64 main_cst_10
  let main_v50 : IVec S64 1 := cmpf .olt main_v48 main_v49
  let main_c_11 : IVec S_ 1 := constantI S_ 1 1#1
  let main_v51 : IVec S_ 1 := (fun x v => Host.reduce IntOp.andi x v reducesTo_S64_S_d0 h_S_) main_v50 main_c_11
  let main_v52 : IVec S_ 1 := andi main_v39 main_v43
  let main_v53 : IVec S_ 1 := andi main_v52 main_v47
  let main_v54 : IVec S_ 1 := andi main_v53 main_v51
  let main_c_12 : IVec S_ 32 := constantI S_ 32 15#32
  let main_v55 : IVec S_ 1 := cmpi .eq main_v35 main_c_12
  let main_v56 : IVec S_ 1 := andi main_v54 main_v55
  main_v56

def fn_part1 {F : FTy → Type} [FloatOps F] (main_arg0 : FVec F S2x2048x1024 .f32) (main_arg1 : FVec F S2x2048x1024 .f32) (main_arg3 : FVec F S1024x64 .f32) (main_arg4 : FVec F S64 .f32) (main_v9 : FVec F S4194304 .f32) (main_v19 : IVec S2048x2048 32) (main_v21 : IVec S2048x2048 32) : IVec S_ 1 :=
  let main_v22 : IVec S2048x2048 32 := addi main_v19 main_v21
  let main_v23 : FVec F S2048x2048 .f32 := fn_take (F := F) main_v9 main_v22
  let main_cst : FVec F S_ .f32 := constant S_ .f32 0x00000000#32
  let main_v24 : FVec F S2048 .f32 := (fun x v => Host.reduceAdd x v reducesTo_S2048x2048_S2048_d1 h_S_) main_v23 main_cst
  let main_v25 : FVec F S1x2048 .f32 := broadcastInDim S1x2048 ![1] bcast_S2048_S1x2048_1 main_v24
  let main_v26 : FVec F S2048x1 .f32 := broadcastInDim S2048x1 ![0] bcast_S2048_S2048x1_0 main_v24
  let main_v27 : FVec F S2048x2048 .f32 := broadcastInDim S2048x2048 ![0, 1] bcast_S1x2048_S2048x2048_0_1 main_v25
  let main_v28 : FVec F S2048x2048 .f32 := broadcastInDim S2048x2048 ![0, 1] bcast_S2048x1_S2048x2048_0_1 main_v26
  let main_v29 : IVec S2048x2048 1 := cmpf .ogt main_v27 main_v28
  let main_v30 : IVec S2048x2048 32 := (extui 32 · natLt_1_32) main_v29
  let main_c_1 : IVec S_ 32 := constantI S_ 32 0#32
  let main_v31 : IVec S2048 32 := (fun x v => Host.reduce IntOp.addi x v reducesTo_S2048x2048_S2048_d1 h_S_) main_v30 main_c_1
  let main_c_2 : IVec S_ 32 := constantI S_ 32 15#32
  let main_v32 : IVec S2048 32 := broadcastInDim S2048 ![] bcast_S_S2048 main_c_2
  let main_v33 : IVec S2048 1 := cmpi .slt main_v31 main_v32
  let main_v34 : IVec S2048 32 := (extui 32 · natLt_1_32) main_v33
  let main_c_3 : IVec S_ 32 := constantI S_ 32 0#32
  let main_v35 : IVec S_ 32 := (fun x v => Host.reduce IntOp.addi x v reducesTo_S2048_S_d0 h_S_) main_v34 main_c_3
  let main_v36 : FVec F S2x2048x1024 .f32 := Host.absf main_arg0
  let main_cst_4 : FVec F S_ .f32 := constant S_ .f32 0x7F800000#32
  let main_v37 : FVec F S2x2048x1024 .f32 := broadcastInDim S2x2048x1024 ![] bcast_S_S2x2048x1024 main_cst_4
  let main_v38 : IVec S2x2048x1024 1 := cmpf .olt main_v36 main_v37
  let main_c_5 : IVec S_ 1 := constantI S_ 1 1#1
  let main_v39 : IVec S_ 1 := (fun x v => Host.reduce IntOp.andi x v reducesTo_S2x2048x1024_S_d0_1_2 h_S_) main_v38 main_c_5
  fn_part2 (F := F) main_arg1 main_arg3 main_arg4 main_v35 main_v39

def fn {F : FTy → Type} [FloatOps F] (main_arg0 : FVec F S2x2048x1024 .f32) (main_arg1 : FVec F S2x2048x1024 .f32) (main_arg2 : FVec F S2x2048x1024 .f32) (main_arg3 : FVec F S1024x64 .f32) (main_arg4 : FVec F S64 .f32) (main_arg5 : FVec F S1024x1024 .f32) (main_arg6 : FVec F S1024 .f32) : IVec S_ 1 :=
  let main_v0 : FVec F S2x2048x64 .f32 := (fun l r => Host.dotGeneral dot_S2x2048x1024_S1024x64_S2x2048x64_2_0_01_1_n_n none l r) main_arg0 main_arg3
  let main_v1 : FVec F S1x1x64 .f32 := broadcastInDim S1x1x64 ![2] bcast_S64_S1x1x64_2 main_arg4
  let main_v2 : FVec F S2x2048x64 .f32 := broadcastInDim S2x2048x64 ![0, 1, 2] bcast_S1x1x64_S2x2048x64_0_1_2 main_v1
  let main_v3 : FVec F S2x2048x64 .f32 := addf main_v0 main_v2
  let main_v4 : FVec F S2x2048x64 .f32 := (fun l r => Host.dotGeneral dot_S2x2048x1024_S1024x64_S2x2048x64_2_0_01_1_n_n none l r) main_arg1 main_arg3
  let main_v5 : FVec F S1x1x64 .f32 := broadcastInDim S1x1x64 ![2] bcast_S64_S1x1x64_2 main_arg4
  let main_v6 : FVec F S2x2048x64 .f32 := broadcastInDim S2x2048x64 ![0, 1, 2] bcast_S1x1x64_S2x2048x64_0_1_2 main_v5
  let main_v7 : FVec F S2x2048x64 .f32 := addf main_v4 main_v6
  let main_v8 : FVec F S2048x2048 .f32 := (fun l r => Host.dotGeneral dot_S2x2048x64_S2x2048x64_S2048x2048_02_02_1_1_n_n none l r) main_v3 main_v7
  let main_v9 : FVec F S4194304 .f32 := shapeCast S4194304 main_v8 shapeCasts_S2048x2048_S4194304
  let main_v10 : IVec S2048 32 := iotaInDim S2048 32 0
  let main_v11 : IVec S2048x1 32 := broadcastInDim S2048x1 ![0] bcast_S2048_S2048x1_0 main_v10
  let main_v12 : IVec S1x2048 32 := broadcastInDim S1x2048 ![1] bcast_S2048_S1x2048_1 main_v10
  let main_v13 : IVec S2048x2048 32 := broadcastInDim S2048x2048 ![0, 1] bcast_S2048x1_S2048x2048_0_1 main_v11
  let main_v14 : IVec S2048x2048 32 := broadcastInDim S2048x2048 ![0, 1] bcast_S1x2048_S2048x2048_0_1 main_v12
  let main_v15 : IVec S2048x2048 32 := addi main_v13 main_v14
  let main_c : IVec S_ 32 := constantI S_ 32 2048#32
  let main_v16 : IVec S2048x2048 32 := broadcastInDim S2048x2048 ![] bcast_S_S2048x2048 main_c
  let main_v17 : IVec S2048x2048 32 := Host.remsi main_v15 main_v16
  let main_c_0 : IVec S_ 32 := constantI S_ 32 2048#32
  let main_v18 : IVec S2048x2048 32 := broadcastInDim S2048x2048 ![] bcast_S_S2048x2048 main_c_0
  let main_v19 : IVec S2048x2048 32 := muli main_v17 main_v18
  let main_v20 : IVec S1x2048 32 := broadcastInDim S1x2048 ![1] bcast_S2048_S1x2048_1 main_v10
  let main_v21 : IVec S2048x2048 32 := broadcastInDim S2048x2048 ![0, 1] bcast_S1x2048_S2048x2048_0_1 main_v20
  fn_part1 (F := F) main_arg0 main_arg1 main_arg3 main_arg4 main_v9 main_v19 main_v21
-- ==== Kernel.lean ====
abbrev S2x2048x1024 : Shape := ⟨3, ![2, 2048, 1024]⟩
abbrev S1024x64 : Shape := ⟨2, ![1024, 64]⟩
abbrev S64 : Shape := ⟨1, ![64]⟩
abbrev S1024x1024 : Shape := ⟨2, ![1024, 1024]⟩
abbrev S1024 : Shape := ⟨1, ![1024]⟩
abbrev S64x1 : Shape := ⟨2, ![64, 1]⟩
abbrev S1x1024 : Shape := ⟨2, ![1, 1024]⟩
abbrev S2x256x1024 : Shape := ⟨3, ![2, 256, 1024]⟩
abbrev S1x1024x1024 : Shape := ⟨3, ![1, 1024, 1024]⟩
abbrev S8x128x256 : Shape := ⟨3, ![8, 128, 256]⟩
abbrev S2x128x1024 : Shape := ⟨3, ![2, 128, 1024]⟩
abbrev S1x256x1024 : Shape := ⟨3, ![1, 256, 1024]⟩
abbrev S256x1024 : Shape := ⟨2, ![256, 1024]⟩
abbrev S64x256 : Shape := ⟨2, ![64, 256]⟩
abbrev S128x256 : Shape := ⟨2, ![128, 256]⟩
abbrev S1x128x256 : Shape := ⟨3, ![1, 128, 256]⟩
abbrev S128x2048 : Shape := ⟨2, ![128, 2048]⟩
abbrev S128x512 : Shape := ⟨2, ![128, 512]⟩
abbrev S512x2048 : Shape := ⟨2, ![512, 2048]⟩
abbrev S256x2048 : Shape := ⟨2, ![256, 2048]⟩
abbrev S64x2048 : Shape := ⟨2, ![64, 2048]⟩
abbrev S32x2048 : Shape := ⟨2, ![32, 2048]⟩
abbrev S16x2048 : Shape := ⟨2, ![16, 2048]⟩
abbrev S8x2048 : Shape := ⟨2, ![8, 2048]⟩
abbrev S2048 : Shape := ⟨1, ![2048]⟩
abbrev S1x2048 : Shape := ⟨2, ![1, 2048]⟩
abbrev S1x1x2048 : Shape := ⟨3, ![1, 1, 2048]⟩
abbrev S1 : Shape := ⟨1, ![1]⟩
abbrev S1x1x1 : Shape := ⟨3, ![1, 1, 1]⟩
abbrev S128x64 : Shape := ⟨2, ![128, 64]⟩
abbrev S64x1024 : Shape := ⟨2, ![64, 1024]⟩
abbrev S128x1024 : Shape := ⟨2, ![128, 1024]⟩
abbrev S1x128x1024 : Shape := ⟨3, ![1, 128, 1024]⟩

abbrev nBuf : Space → Nat
  | .hbm => 10
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x64, .f32⟩
  | .hbm, ⟨4, _⟩ => ⟨S64, .f32⟩
  | .hbm, ⟨5, _⟩ => ⟨S1024x1024, .f32⟩
  | .hbm, ⟨6, _⟩ => ⟨S1024, .f32⟩
  | .hbm, ⟨7, _⟩ => ⟨S64x1, .f32⟩
  | .hbm, ⟨8, _⟩ => ⟨S1x1024, .f32⟩
  | .hbm, ⟨9, _⟩ => ⟨S2x2048x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x256x1024, .f32⟩
  | .local _ .vmem, ⟨5, _⟩ => ⟨S2x256x1024, .f32⟩
  | .local _ .vmem, ⟨6, _⟩ => ⟨S1024x64, .f32⟩
  | .local _ .vmem, ⟨7, _⟩ => ⟨S64x1, .f32⟩
  | .local _ .vmem, ⟨8, _⟩ => ⟨S1024x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S8x128x256, .f32⟩
  | .local _ .vmem, ⟨13, _⟩ => ⟨S8x128x256, .f32⟩
  | .local _ .vmem, ⟨14, _⟩ => ⟨S8x128x256, .f32⟩
  | .local _ .vmem, ⟨15, _⟩ => ⟨S2x128x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v23 : Index := Scalar.indexCast arg0
  let c0_13 : Index := 0#32
  let c0_14 : Index := 0#32
  ![v23.toNat, 0, 0]
def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def k0_off2 (i : grid0.Coords) : Fin 3 → Nat :=
  let arg0 : BitVec 32 := BitVec.ofNat 32 (i 0).val
  let c8_i32_4 : BitVec 32 := 8#32
  let v9 : BitVec 32 := Scalar.subi arg0 c8_i32_4
  let c0_i32_5 : BitVec 32 := 0#32
  let v11 : BitVec 1 := Scalar.cmpi .sgt v9 c0_i32_5
  let v12 : BitVec 32 := Scalar.extui v11
  let c0_i32_6 : BitVec 32 := 0#32
  let v13 : BitVec 1 := Scalar.cmpi .slt v9 c0_i32_6
  let v14 : BitVec 32 := Scalar.extui v13
  let v15 : BitVec 32 := Scalar.subi v12 v14
  let c2_i32 : BitVec 32 := 2#32
  let c0_i32_7 : BitVec 32 := 0#32
  let v16 : BitVec 1 := Scalar.cmpi .sgt c2_i32 c0_i32_7
  let v17 : BitVec 32 := Scalar.extui v16
  let c0_i32_8 : BitVec 32 := 0#32
  let v18 : BitVec 1 := Scalar.cmpi .slt c2_i32 c0_i32_8
  let v19 : BitVec 32 := Scalar.extui v18
  let v20 : BitVec 32 := Scalar.subi v17 v19
  let v21 : BitVec 1 := Scalar.cmpi .ne v15 v20
  let v22 : BitVec 32 := Scalar.remsi v9 c2_i32
  let c0_i32_9 : BitVec 32 := 0#32
  let v23 : BitVec 1 := Scalar.cmpi .ne v22 c0_i32_9
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let v27 : Index := Scalar.indexCast v26
  let c0 : Index := 0#32
  let c0_10 : Index := 0#32
  ![v27.toNat, 0, 0]
def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S1024x64 : Shape := ⟨2, ![1024, 64]⟩
abbrev S64 : Shape := ⟨1, ![64]⟩
abbrev S1024x1024 : Shape := ⟨2, ![1024, 1024]⟩
abbrev S1024 : Shape := ⟨1, ![1024]⟩
abbrev S2x2048x64 : Shape := ⟨3, ![2, 2048, 64]⟩
abbrev S1x1x64 : Shape := ⟨3, ![1, 1, 64]⟩
abbrev S2x1x2048x64 : Shape := ⟨4, ![2, 1, 2048, 64]⟩
abbrev S2x16x2048x64 : Shape := ⟨4, ![2, 16, 2048, 64]⟩
abbrev S2x16x64x2048 : Shape := ⟨4, ![2, 16, 64, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x15 : Shape := ⟨2, ![1, 15]⟩
abbrev S1 : Shape := ⟨1, ![1]⟩
abbrev S1x1 : Shape := ⟨2, ![1, 1]⟩
abbrev S15 : Shape := ⟨1, ![15]⟩
abbrev S15x1 : Shape := ⟨2, ![15, 1]⟩
abbrev S15x2048 : Shape := ⟨2, ![15, 2048]⟩
abbrev S15x2048x1 : Shape := ⟨3, ![15, 2048, 1]⟩
abbrev S2x16x64x15x2048 : Shape := ⟨5, ![2, 16, 64, 15, 2048]⟩
abbrev S1x1x1x15x1 : Shape := ⟨5, ![1, 1, 1, 15, 1]⟩
abbrev S1x1x1024 : Shape := ⟨3, ![1, 1, 1024]⟩

abbrev nBuf : Space → Nat
  | .hbm => 158
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x2048x1024, .f32⟩
  | 3 => ⟨S1024x64, .f32⟩
  | 4 => ⟨S64, .f32⟩
  | 5 => ⟨S1024x1024, .f32⟩
  | 6 => ⟨S1024, .f32⟩
  | 7 => ⟨S2x2048x64, .f32⟩
  | 8 => ⟨S1x1x64, .f32⟩
  | 9 => ⟨S2x2048x64, .f32⟩
  | 10 => ⟨S2x2048x64, .f32⟩
  | 11 => ⟨S2x2048x64, .f32⟩
  | 12 => ⟨S1x1x64, .f32⟩
  | 13 => ⟨S2x2048x64, .f32⟩
  | 14 => ⟨S2x2048x64, .f32⟩
  | 15 => ⟨S2x2048x64, .f32⟩
  | 16 => ⟨S1x1x64, .f32⟩
  | 17 => ⟨S2x2048x64, .f32⟩
  | 18 => ⟨S2x2048x64, .f32⟩
  | 19 => ⟨S2x1x2048x64, .f32⟩
  | 20 => ⟨S2x1x2048x64, .f32⟩
  | 21 => ⟨S2x1x2048x64, .f32⟩
  | 22 => ⟨S2x1x2048x64, .f32⟩
  | 23 => ⟨S2x1x2048x64, .f32⟩
  | 24 => ⟨S2x1x2048x64, .f32⟩
  | 25 => ⟨S2x1x2048x64, .f32⟩
  | 26 => ⟨S2x1x2048x64, .f32⟩
  | 27 => ⟨S2x1x2048x64, .f32⟩
  | 28 => ⟨S2x1x2048x64, .f32⟩
  | 29 => ⟨S2x1x2048x64, .f32⟩
  | 30 => ⟨S2x1x2048x64, .f32⟩
  | 31 => ⟨S2x1x2048x64, .f32⟩
  | 32 => ⟨S2x1x2048x64, .f32⟩
  | 33 => ⟨S2x1x2048x64, .f32⟩
  | 34 => ⟨S2x1x2048x64, .f32⟩
  | 35 => ⟨S2x16x2048x64, .f32⟩
  | 36 => ⟨S2x1x2048x64, .f32⟩
  | 37 => ⟨S2x1x2048x64, .f32⟩
  | 38 => ⟨S2x1x2048x64, .f32⟩
  | 39 => ⟨S2x1x2048x64, .f32⟩
  | 40 => ⟨S2x1x2048x64, .f32⟩
  | 41 => ⟨S2x1x2048x64, .f32⟩
  | 42 => ⟨S2x1x2048x64, .f32⟩
  | 43 => ⟨S2x1x2048x64, .f32⟩
  | 44 => ⟨S2x1x2048x64, .f32⟩
  | 45 => ⟨S2x1x2048x64, .f32⟩
  | 46 => ⟨S2x1x2048x64, .f32⟩
  | 47 => ⟨S2x1x2048x64, .f32⟩
  | 48 => ⟨S2x1x2048x64, .f32⟩
  | 49 => ⟨S2x1x2048x64, .f32⟩
  | 50 => ⟨S2x1x2048x64, .f32⟩
  | 51 => ⟨S2x1x2048x64, .f32⟩
  | 52 => ⟨S2x16x2048x64, .f32⟩
  | 53 => ⟨S2x1x2048x64, .f32⟩
  | 54 => ⟨S2x1x2048x64, .f32⟩
  | 55 => ⟨S2x1x2048x64, .f32⟩
  | 56 => ⟨S2x1x2048x64, .f32⟩
  | 57 => ⟨S2x1x2048x64, .f32⟩
  | 58 => ⟨S2x1x2048x64, .f32⟩
  | 59 => ⟨S2x1x2048x64, .f32⟩
  | 60 => ⟨S2x1x2048x64, .f32⟩
  | 61 => ⟨S2x1x2048x64, .f32⟩
  | 62 => ⟨S2x1x2048x64, .f32⟩
  | 63 => ⟨S2x1x2048x64, .f32⟩
  | 64 => ⟨S2x1x2048x64, .f32⟩
  | 65 => ⟨S2x1x2048x64, .f32⟩
  | 66 => ⟨S2x1x2048x64, .f32⟩
  | 67 => ⟨S2x1x2048x64, .f32⟩
  | 68 => ⟨S2x1x2048x64, .f32⟩
  | 69 => ⟨S2x16x2048x64, .f32⟩
  | 70 => ⟨S2x16x64x2048, .f32⟩
  | 71 => ⟨S2x16x64x2048, .f32⟩
  | 72 => ⟨S2x16x64x2048, .f32⟩
  | 73 => ⟨S2048, .i32⟩
  | 74 => ⟨S2048x1, .i32⟩
  | 75 => ⟨S1x2048, .i32⟩
  | 76 => ⟨S2048x2048, .i32⟩
  | 77 => ⟨S2048x2048, .i32⟩
  | 78 => ⟨S2048x2048, .i32⟩
  | 79 => ⟨S_, .i32⟩
  | 80 => ⟨S2048x2048, .i32⟩
  | 81 => ⟨S2048x2048, .i32⟩
  | 82 => ⟨S2048x2048, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S2048x2048, .f32⟩
  | 91 => ⟨S2048x2048, .f32⟩
  | 92 => ⟨S2048x2048, .f32⟩
  | 93 => ⟨S2048x2048, .f32⟩
  | 94 => ⟨S2x16x64x2048, .f32⟩
  | 95 => ⟨S2x16x64x2048, .f32⟩
  | 96 => ⟨S2x16x64x2048, .f32⟩
  | 97 => ⟨S2x16x64x2048, .f32⟩
  | 98 => ⟨S2x16x64x2048, .f32⟩
  | 99 => ⟨S2x16x64x2048, .f32⟩
  | 100 => ⟨S2x16x64x2048, .f32⟩
  | 101 => ⟨S2x16x64x2048, .f32⟩
  | 102 => ⟨S2x16x64x2048, .f32⟩
  | 103 => ⟨S2x16x64x2048, .f32⟩
  | 104 => ⟨S2x16x64x2048, .f32⟩
  | 105 => ⟨S2x16x64x2048, .f32⟩
  | 106 => ⟨S2x16x64x2048, .f32⟩
  | 107 => ⟨S2x16x64x2048, .f32⟩
  | 108 => ⟨S2x16x64x2048, .f32⟩
  | 109 => ⟨S_, .f32⟩
  | 110 => ⟨S2x16x64x2048, .f32⟩
  | 111 => ⟨S2x16x64x2048, .f32⟩
  | 112 => ⟨S_, .f32⟩
  | 113 => ⟨S2048, .f32⟩
  | 114 => ⟨S_, .f32⟩
  | 115 => ⟨S2048, .f32⟩
  | 116 => ⟨S2048, .f32⟩
  | 117 => ⟨S1x2048, .f32⟩
  | 118 => ⟨S1x15, .f32⟩
  | 119 => ⟨S1x15, .i32⟩
  | 120 => ⟨S_, .f32⟩
  | 121 => ⟨S1, .f32⟩
  | 122 => ⟨S_, .f32⟩
  | 123 => ⟨S1, .f32⟩
  | 124 => ⟨S1, .f32⟩
  | 125 => ⟨S1x1, .f32⟩
  | 126 => ⟨S1x15, .f32⟩
  | 127 => ⟨S1x15, .f32⟩
  | _ => ⟨S2x2048x1024, .f32⟩

abbrev hbmTy0_1 (i : Nat) : BufTy := match i % 128 with
  | 0 => ⟨S1x15, .f32⟩
  | 1 => ⟨S_, .f32⟩
  | 2 => ⟨S1, .f32⟩
  | 3 => ⟨S1x1, .f32⟩
  | 4 => ⟨S1x15, .f32⟩
  | 5 => ⟨S1x15, .f32⟩
  | 6 => ⟨S2048, .i32⟩
  | 7 => ⟨S15, .i32⟩
  | 8 => ⟨S15x1, .i32⟩
  | 9 => ⟨S1x2048, .i32⟩
  | 10 => ⟨S15x2048, .i32⟩
  | 11 => ⟨S15x2048, .i32⟩
  | 12 => ⟨S15x2048, .i32⟩
  | 13 => ⟨S_, .i32⟩
  | 14 => ⟨S15x2048, .i32⟩
  | 15 => ⟨S15x2048, .i32⟩
  | 16 => ⟨S15x2048x1, .i32⟩
  | 17 => ⟨S2x16x64x15x2048, .f32⟩
  | 18 => ⟨S15, .f32⟩
  | 19 => ⟨S15x1, .f32⟩
  | 20 => ⟨S1x1x1x15x1, .f32⟩
  | 21 => ⟨S2x16x64x15x2048, .f32⟩
  | 22 => ⟨S2x16x64x15x2048, .f32⟩
  | 23 => ⟨S_, .f32⟩
  | 24 => ⟨S2x16x64x2048, .f32⟩
  | 25 => ⟨S2x2048x1024, .f32⟩
  | 26 => ⟨S2x2048x1024, .f32⟩
  | 27 => ⟨S1x1x1024, .f32⟩
  | 28 => ⟨S2x2048x1024, .f32⟩
  | 29 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_c : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_cst : Ref sig .tc := ⟨.hbm, 83, rfl⟩
abbrev main_cst_0 : Ref sig .tc := ⟨.hbm, 84, rfl⟩
abbrev main_v75 : Ref sig .tc := ⟨.hbm, 85, rfl⟩
abbrev main_cst_1 : Ref sig .tc := ⟨.hbm, 86, rfl⟩
abbrev main_v76 : Ref sig .tc := ⟨.hbm, 87, rfl⟩
abbrev main_cst_2 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_3 : Ref sig .tc := ⟨.hbm, 109, rfl⟩
abbrev main_v97 : Ref sig .tc := ⟨.hbm, 110, rfl⟩
abbrev main_v98 : Ref sig .tc := ⟨.hbm, 111, rfl⟩
abbrev main_cst_4 : Ref sig .tc := ⟨.hbm, 112, rfl⟩
abbrev main_v99 : Ref sig .tc := ⟨.hbm, 113, rfl⟩
abbrev main_cst_5 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_values : Ref sig .tc := ⟨.hbm, 118, rfl⟩
abbrev main_indices : Ref sig .tc := ⟨.hbm, 119, rfl⟩
abbrev main_cst_6 : Ref sig .tc := ⟨.hbm, 120, rfl⟩
abbrev main_v103 : Ref sig .tc := ⟨.hbm, 121, rfl⟩
abbrev main_cst_7 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_8 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_c_9 : Ref sig .tc := ⟨.hbm, 141, rfl⟩
abbrev main_v121 : Ref sig .tc := ⟨.hbm, 142, rfl⟩
abbrev main_v122 : Ref sig .tc := ⟨.hbm, 143, rfl⟩
abbrev main_call0_v0 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_cst_10 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩

abbrev nD : Nat := 1
abbrev τ : Topo := Topo.v7x

variable {F : FTy → Type} [FloatOps F]
-- ==== Proof.Math.Spec.lean ====
/-
  The problem's arithmetic over the reals: circular correlation by sines and cosines, and the choice of the fifteen
  largest lags.
-/
module

public import Mathlib.Analysis.SpecialFunctions.Complex.Log
public import Mathlib.Algebra.Field.GeomSum
public import Mathlib.Data.EReal.Operations
public import Mathlib.Tactic.LinearCombination
public import Mathlib.Tactic.Ring
public import Mathlib.Tactic.Push
public import Mathlib.Tactic.NormNum
public import Mathlib.Algebra.BigOperators.Fin

@[expose] public section

noncomputable section

namespace Cert.Math

open Finset

/-! ## Sines and cosines -/

/-- The table's angle: the product of two positions, reduced, times a 2048th of a turn. -/
def angle (t f : Fin 2048) : ℝ := (((t.val * f.val) % 2048 : ℕ) : ℝ) * (2 * Real.pi / 2048)

/-- The angle of an integer number of 2048ths of a turn. -/
def turn (n : ℤ) : ℝ := (n : ℝ) * (2 * Real.pi / 2048)

theorem cos_turn_mod (n k : ℤ) : Real.cos (turn (n + 2048 * k)) = Real.cos (turn n) := by
  have : turn (n + 2048 * k) = turn n + k * (2 * Real.pi) := by
    unfold turn; push_cast; ring
  rw [this, Real.cos_add_int_mul_two_pi]

theorem sin_turn_mod (n k : ℤ) : Real.sin (turn (n + 2048 * k)) = Real.sin (turn n) := by
  have : turn (n + 2048 * k) = turn n + k * (2 * Real.pi) := by
    unfold turn; push_cast; ring
  rw [this, Real.sin_add_int_mul_two_pi]

theorem angle_turn (t f : Fin 2048) : ∃ k : ℤ, (t.val : ℤ) * f.val = ((t.val * f.val) % 2048 : ℕ) + 2048 * k := by
  refine ⟨((t.val * f.val) / 2048 : ℕ), ?_⟩
  have := Nat.mod_add_div (t.val * f.val) 2048
  exact_mod_cast this.symm

theorem cos_angle (t f : Fin 2048) : Real.cos (angle t f) = Real.cos (turn ((t.val : ℤ) * f.val)) := by
  obtain ⟨k, hk⟩ := angle_turn t f
  rw [hk, cos_turn_mod]; rfl

theorem sin_angle (t f : Fin 2048) : Real.sin (angle t f) = Real.sin (turn ((t.val : ℤ) * f.val)) := by
  obtain ⟨k, hk⟩ := angle_turn t f
  rw [hk, sin_turn_mod]; rfl

/-- A full round of cosines sums to nothing, except for the constant one. -/
theorem sum_cos (n : ℤ) : (∑ f : Fin 2048, Real.cos (turn ((f.val : ℤ) * n))) = if (2048 : ℤ) ∣ n then 2048 else 0 := by
  let z : ℂ := Complex.exp ((turn n : ℝ) * Complex.I)
  have hz : ∀ f : ℕ, z ^ f = Complex.exp ((turn ((f : ℤ) * n) : ℝ) * Complex.I) := by
    intro f
    simp only [z]
    rw [← Complex.exp_nat_mul]
    congr 1
    unfold turn
    push_cast
    ring
  have hre : (∑ f : Fin 2048, Real.cos (turn ((f.val : ℤ) * n))) = (∑ f ∈ range 2048, z ^ f).re := by
    rw [Complex.re_sum, ← Fin.sum_univ_eq_sum_range (fun f => (z ^ f).re) 2048]
    refine sum_congr rfl fun f _ => ?_
    rw [hz, Complex.exp_ofReal_mul_I_re]
  rw [hre]
  split_ifs with h
  · obtain ⟨k, rfl⟩ := h
    have h1 : z = 1 := by
      simp only [z]
      rw [Complex.exp_eq_one_iff]
      refine ⟨k, ?_⟩
      unfold turn
      push_cast
      ring
    simp [h1]
  · have h1 : z ≠ 1 := by
      intro hz1
      simp only [z] at hz1
      rw [Complex.exp_eq_one_iff] at hz1
      obtain ⟨k, hk⟩ := hz1
      apply h
      refine ⟨k, ?_⟩
      have hpi : (Real.pi : ℂ) ≠ 0 := by exact_mod_cast Real.pi_ne_zero
      unfold turn at hk
      push_cast at hk
      have : (n : ℂ) = 2048 * k := by
        have hI : Complex.I ≠ 0 := Complex.I_ne_zero
        have h2 : (2 * (Real.pi : ℂ) * Complex.I) ≠ 0 := by simp [hpi]
        apply mul_right_cancel₀ h2
        linear_combination 2048 * hk
      exact_mod_cast this
    have h2 : z ^ 2048 = 1 := by
      rw [hz, Complex.exp_eq_one_iff]
      refine ⟨n, ?_⟩
      unfold turn
      push_cast
      ring
    rw [geom_sum_eq h1, h2]
    simp

/-- The cosine sums of a signal. -/
def cosSum (q : Fin 2048 → ℝ) (f : Fin 2048) : ℝ := ∑ t, q t * Real.cos (angle t f)
/-- The sine sums of a signal. -/
def sinSum (q : Fin 2048 → ℝ) (f : Fin 2048) : ℝ := ∑ t, q t * Real.sin (angle t f)

/-- The frequency-side formula of the circular correlation. -/
def freqCorr (q k : Fin 2048 → ℝ) (s : Fin 2048) : ℝ :=
  (∑ f, (cosSum q f * cosSum k f + (-sinSum q f) * (-sinSum k f)) * Real.cos (angle f s)
    - ∑ f, ((-sinSum q f) * cosSum k f - cosSum q f * (-sinSum k f)) * Real.sin (angle f s)) / 2048

theorem term_cos (t u s f : Fin 2048) :
    Real.cos (turn ((f.val : ℤ) * ((t.val : ℤ) - u.val - s.val)))
      = (Real.cos (angle t f) * Real.cos (angle u f) + Real.sin (angle t f) * Real.sin (angle u f)) * Real.cos (angle f s)
        + (Real.sin (angle t f) * Real.cos (angle u f) - Real.cos (angle t f) * Real.sin (angle u f)) * Real.sin (angle f s) := by
  rw [cos_angle, cos_angle, cos_angle, sin_angle, sin_angle, sin_angle, ← Real.cos_sub, ← Real.sin_sub, ← Real.cos_sub]
  congr 1
  unfold turn
  push_cast
  ring

theorem dvd_iff (t u s : Fin 2048) : (2048 : ℤ) ∣ ((t.val : ℤ) - u.val - s.val) ↔ t = u + s := by
  rw [Fin.ext_iff, Fin.val_add]
  have := t.isLt; have := u.isLt; have := s.isLt
  omega

/-- The frequency-side formula is the circular correlation. -/
theorem freqCorr_eq (q k : Fin 2048 → ℝ) (s : Fin 2048) : freqCorr q k s = ∑ u, q (u + s) * k u := by
  have h1 : (∑ f, (cosSum q f * cosSum k f + (-sinSum q f) * (-sinSum k f)) * Real.cos (angle f s)
      - ∑ f, ((-sinSum q f) * cosSum k f - cosSum q f * (-sinSum k f)) * Real.sin (angle f s))
      = ∑ f : Fin 2048, ∑ t : Fin 2048, ∑ u : Fin 2048, q t * k u * Real.cos (turn ((f.val : ℤ) * ((t.val : ℤ) - u.val - s.val))) := by
    rw [← sum_sub_distrib]
    refine sum_congr rfl fun f _ => ?_
    have e : ∀ a b : Fin 2048 → ℝ, (∑ t, a t) * (∑ u, b u) = ∑ t, ∑ u, a t * b u := fun a b => by
      rw [sum_mul]; exact sum_congr rfl fun _ _ => mul_sum _ _ _
    have e2 : (cosSum q f * cosSum k f + (-sinSum q f) * (-sinSum k f)) * Real.cos (angle f s)
        - ((-sinSum q f) * cosSum k f - cosSum q f * (-sinSum k f)) * Real.sin (angle f s)
        = (cosSum q f * cosSum k f) * Real.cos (angle f s) + (sinSum q f * sinSum k f) * Real.cos (angle f s)
          + (sinSum q f * cosSum k f) * Real.sin (angle f s) - (cosSum q f * sinSum k f) * Real.sin (angle f s) := by ring
    rw [e2]
    unfold cosSum sinSum
    rw [e, e, e, e]
    simp only [sum_mul]
    simp only [← sum_add_distrib, ← sum_sub_distrib]
    refine sum_congr rfl fun t _ => sum_congr rfl fun u _ => ?_
    rw [term_cos]
    ring
  unfold freqCorr
  rw [h1]
  have h2 : (∑ f : Fin 2048, ∑ t, ∑ u, q t * k u * Real.cos (turn ((f.val : ℤ) * ((t.val : ℤ) - u.val - s.val))))
      = ∑ t : Fin 2048, ∑ u : Fin 2048, q t * k u * (if t = u + s then 2048 else 0) := by
    rw [sum_comm]
    refine sum_congr rfl fun t _ => ?_
    rw [sum_comm]
    refine sum_congr rfl fun u _ => ?_
    rw [← mul_sum, sum_cos]
    simp only [dvd_iff]
  rw [h2, sum_comm, div_eq_mul_inv, sum_mul]
  refine sum_congr rfl fun u _ => ?_
  simp only [mul_ite, mul_zero, sum_ite_eq', mem_univ, if_true, sum_ite_eq]
  ring

/-! ## The fifteen largest -/

/-- The lags that fewer than fifteen lags are above. -/
def top (x : Fin 2048 → ℝ) : Finset (Fin 2048) := univ.filter fun s => (univ.filter fun u => x s < x u).card < 15

/-- Fifteen distinct lags that no other lag is above. -/
structure IsTop (x : Fin 2048 → ℝ) (I : Fin 15 → Fin 2048) : Prop where
  inj : Function.Injective I
  le : ∀ u, (∀ i, I i ≠ u) → ∀ i, x u ≤ x (I i)

/-- Where exactly fifteen lags have fewer than fifteen above them, those are the ones chosen. -/
theorem IsTop.image {x : Fin 2048 → ℝ} {I : Fin 15 → Fin 2048} (h : IsTop x I) (hx : (top x).card = 15) :
    univ.image I = top x := by
  classical
  have hc : (univ.image I).card = 15 := by rw [card_image_of_injective _ h.inj]; simp
  refine eq_of_subset_of_card_le ?_ (by rw [hc, hx])
  intro s hs
  obtain ⟨i, -, rfl⟩ := mem_image.mp hs
  simp only [top, mem_filter, mem_univ, true_and]
  have hsub : (univ.filter fun u => x (I i) < x u) ⊆ (univ.image I).erase (I i) := by
    intro u hu
    have hu' := (mem_filter.mp hu).2
    refine mem_erase.mpr ⟨fun e => by subst e; exact lt_irrefl _ hu', ?_⟩
    by_contra hn
    refine absurd (h.le u (fun j e => hn (mem_image.mpr ⟨j, mem_univ _, e⟩)) i) (not_le.mpr hu')
  calc _ ≤ ((univ.image I).erase (I i)).card := card_le_card hsub
    _ < (univ.image I).card := card_erase_lt_of_mem hs
    _ = 15 := hc

/-- The largest of the chosen lags. -/
def peak (x : Fin 2048 → ℝ) (I : Fin 15 → Fin 2048) : ℝ := univ.sup' ⟨0, mem_univ _⟩ fun i => x (I i)

/-- The weights of the chosen lags. -/
def weight (x : Fin 2048 → ℝ) (I : Fin 15 → Fin 2048) (i : Fin 15) : ℝ :=
  Real.exp (x (I i) - peak x I) / ∑ j, Real.exp (x (I j) - peak x I)

/-- The weighted sum over the chosen lags. -/
def mix (x : Fin 2048 → ℝ) (I : Fin 15 → Fin 2048) (v : Fin 2048 → EReal) (t : Fin 2048) : EReal :=
  ∑ i, ((weight x I i : ℝ) : EReal) * v (t + I i)

/-- Two choices of the fifteen largest give one weighted sum. -/
theorem mix_eq {x : Fin 2048 → ℝ} {I J : Fin 15 → Fin 2048} (hI : IsTop x I) (hJ : IsTop x J) (hx : (top x).card = 15)
    (v : Fin 2048 → EReal) (t : Fin 2048) : mix x I v t = mix x J v t := by
  classical
  have hp : peak x I = peak x J := by
    have e : ∀ K : Fin 15 → Fin 2048, IsTop x K → ∀ hne : (top x).Nonempty, peak x K = (top x).sup' hne x := by
      intro K hK hne
      refine le_antisymm (sup'_le _ _ fun i _ => le_sup' x (hK.image hx ▸ mem_image_of_mem K (mem_univ i))) (sup'_le _ _ fun s hs => ?_)
      rw [← hK.image hx] at hs
      obtain ⟨i, -, rfl⟩ := mem_image.mp hs
      exact le_sup' (fun i => x (K i)) (mem_univ i)
    have hne : (top x).Nonempty := card_pos.mp (by rw [hx]; norm_num)
    rw [e I hI hne, e J hJ hne]
  have hs : ∀ {β : Type} [AddCommMonoid β] (K : Fin 15 → Fin 2048), IsTop x K → ∀ f : Fin 2048 → β, (∑ i, f (K i)) = ∑ s ∈ top x, f s := by
    intro β _ K hK f
    rw [← hK.image hx, sum_image fun a _ b _ h => hK.inj h]
  have hden : (∑ j, Real.exp (x (I j) - peak x I)) = ∑ j, Real.exp (x (J j) - peak x J) := by
    rw [hp, hs I hI fun s => Real.exp (x s - peak x J), hs J hJ fun s => Real.exp (x s - peak x J)]
  unfold mix weight
  rw [hden, hp, hs I hI fun s => ((Real.exp (x s - peak x J) / ∑ j, Real.exp (x (J j) - peak x J) : ℝ) : EReal) * v (t + s),
    hs J hJ fun s => ((Real.exp (x s - peak x J) / ∑ j, Real.exp (x (J j) - peak x J) : ℝ) : EReal) * v (t + s)]

/-! ## Rounds of taking the largest -/

/-- What a round leaves: `p` masked. -/
def mask (y : Fin 2048 → EReal) (p : Fin 2048) : Fin 2048 → EReal := fun c => if c = p then ⊥ else y c

/-- `p` holds the largest entry. -/
def IsMax (y : Fin 2048 → EReal) (p : Fin 2048) : Prop := ∀ u, y u ≤ y p

/-- Rounds of taking the largest entry and masking it choose distinct positions that no other entry is above. -/
theorem rounds (x : Fin 2048 → ℝ) (y : ℕ → Fin 2048 → EReal) (p : ℕ → Fin 2048) (n : ℕ) (hn : n ≤ 2048)
    (h0 : y 0 = fun c => ((x c : ℝ) : EReal)) (hmax : ∀ i < n, IsMax (y i) (p i)) (hstep : ∀ i < n, y (i + 1) = mask (y i) (p i)) :
    (∀ i < n, ∀ j < n, p i = p j → i = j) ∧ (∀ i < n, y i (p i) = ((x (p i) : ℝ) : EReal))
      ∧ (∀ u, (∀ i < n, p i ≠ u) → ∀ i < n, x u ≤ x (p i)) ∧ ∀ i < n, ∀ j < n, i ≤ j → x (p j) ≤ x (p i) := by
  have hy : ∀ k ≤ n, ∀ u, y k u = if ∃ i < k, p i = u then ⊥ else ((x u : ℝ) : EReal) := by
    intro k
    induction k with
    | zero => intro _ u; simp [h0]
    | succ k ih =>
      intro hk u
      rw [hstep k (by omega)]
      unfold mask
      by_cases hu : u = p k
      · rw [if_pos hu, if_pos ⟨k, by omega, hu.symm⟩]
      · rw [if_neg hu, ih (by omega)]
        congr 1
        apply propext
        constructor
        · rintro ⟨i, hi, e⟩; exact ⟨i, by omega, e⟩
        · rintro ⟨i, hi, e⟩
          refine ⟨i, ?_, e⟩
          rcases Nat.lt_succ_iff_lt_or_eq.mp hi with h | h
          · exact h
          · subst h; exact absurd e.symm hu
  have hnew : ∀ k < n, ∀ i < k, p i ≠ p k := by
    intro k hk i hi e
    have h1 : y k (p k) = ⊥ := by rw [hy k (by omega), if_pos ⟨i, hi, e⟩]
    obtain ⟨u, hu⟩ : ∃ u : Fin 2048, ∀ i < k, p i ≠ u := by
      by_contra hcon
      push Not at hcon
      have hsub : (univ : Finset (Fin 2048)) ⊆ (range k).image p := fun u _ => by
        obtain ⟨i, hi, e⟩ := hcon u
        exact mem_image.mpr ⟨i, mem_range.mpr hi, e⟩
      have := (card_le_card hsub).trans card_image_le
      rw [card_range, card_univ, Fintype.card_fin] at this
      omega
    have h2 := hmax k hk u
    rw [h1, hy k (by omega), if_neg (by push Not; exact hu)] at h2
    exact absurd (le_bot_iff.mp h2) (EReal.coe_ne_bot _)
  have hval : ∀ i < n, y i (p i) = ((x (p i) : ℝ) : EReal) := by
    intro i hi
    rw [hy i (by omega), if_neg]
    rintro ⟨j, hj, e⟩
    exact hnew i hi j hj e
  refine ⟨?_, hval, ?_, ?_⟩
  · intro i hi j hj e
    rcases lt_trichotomy i j with h | h | h
    · exact absurd e (hnew j hj i h)
    · exact h
    · exact absurd e.symm (hnew i hi j h)
  · intro u hu i hi
    have h := hmax i hi u
    rw [hval i hi, hy i (by omega), if_neg (by rintro ⟨j, hj, e⟩; exact hu j (by omega) e)] at h
    exact EReal.coe_le_coe_iff.mp h
  · intro i hi j hj hij
    rcases eq_or_lt_of_le hij with h | h
    · rw [h]
    · have h2 := hmax i hi (p j)
      rw [hval i hi, hy i (by omega), if_neg] at h2
      · exact EReal.coe_le_coe_iff.mp h2
      · rintro ⟨l, hl, e⟩; exact hnew j hj l (by omega) e

end Cert.Math

end
-- ==== Proof.Math.Words.lean ====
/-
  Sums of reals among the extended reals, the constants that occur, and words.
-/
module

public import Idealize.ShloMosaic.Lib.Pointwise
public import Idealize.ShloMosaic.Lib.Affine
public import proofs.«01_k».proof.Proof.Math.Spec

@[expose] public section

noncomputable section

namespace Cert.Math

open Idealize.ShloMosaic

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem two_const : (Ideal.ofBits .f32 0x40000000#32 : EReal) = ((2 : ℝ) : EReal) := by
  simp [Ideal.ofBits, Ideal.ieee, -EReal.coe_mul]
  norm_num
theorem size_const : (Ideal.ofBits .f32 0x45000000#32 : EReal) = ((2048 : ℝ) : EReal) := by
  simp [Ideal.ofBits, Ideal.ieee, -EReal.coe_mul]
  norm_num
theorem mean_const : (Ideal.ofBits .f32 0x3C000000#32 : EReal) = ((1 / 128 : ℝ) : EReal) := by
  simp [Ideal.ofBits, Ideal.ieee, -EReal.coe_mul]
  norm_num
theorem minus_const : (Ideal.ofBits .f32 0xBF800000#32 : EReal) = ((-1 : ℝ) : EReal) := by
  simp [Ideal.ofBits, Ideal.ieee, -EReal.coe_mul]
  norm_num
theorem bot_const : (Ideal.ofBits .f32 0xFF800000#32 : EReal) = ⊥ := by
  simp [Ideal.ofBits, Ideal.ieee, -EReal.coe_mul]
theorem top_const : (Ideal.ofBits .f32 0x7F800000#32 : EReal) = ⊤ := by
  simp [Ideal.ofBits, Ideal.ieee, -EReal.coe_mul]

theorem half_turn : Ideal.atan2 (0 : EReal) ((-1 : ℝ) : EReal) = ((Real.pi : ℝ) : EReal) := by
  have : Ideal.atan2 ((0 : ℝ) : EReal) ((-1 : ℝ) : EReal) = ((Real.pi : ℝ) : EReal) := by
    show (((if (0 : ℝ) < -1 then _ else if (-1 : ℝ) < 0 then _ else _ : ℝ)) : EReal) = _
    norm_num
  exact this

/-- A remainder by the length, of a word below half the range. -/
theorem rem_toNat {x : BitVec 32} (h : 2 * x.toNat < 2 ^ 32) : (IntOp.remsi .host x 2048#32).toNat = x.toNat % 2048 :=
  IntOp.toNat_remsi .host h 2048 (by norm_num) (by norm_num)

theorem toInt_small {x : BitVec 32} (h : x.toNat < 2048) : x.toInt = (x.toNat : ℤ) :=
  BitVec.toInt_eq_toNat_of_lt (by omega)

theorem mul_rem (t f : Fin 2048) :
    (IntOp.remsi .host (IntOp.muli (BitVec.ofNat 32 t) (BitVec.ofNat 32 f)) 2048#32).toInt = ((t.val * f.val % 2048 : ℕ) : ℤ) := by
  have h : t.val * f.val ≤ 2047 * 2047 := Nat.mul_le_mul (by omega) (by omega)
  have e : (IntOp.muli (BitVec.ofNat 32 t) (BitVec.ofNat 32 f)).toNat = t.val * f.val := by
    show (BitVec.ofNat 32 t * BitVec.ofNat 32 f).toNat = _
    rw [BitVec.toNat_mul, BitVec.toNat_ofNat, BitVec.toNat_ofNat, Nat.mod_eq_of_lt (a := t.val) (by omega), Nat.mod_eq_of_lt (a := f.val) (by omega),
      Nat.mod_eq_of_lt (by omega)]
  have r := rem_toNat (x := IntOp.muli (BitVec.ofNat 32 t) (BitVec.ofNat 32 f)) (by omega)
  rw [toInt_small (by omega), r, e]

theorem add_rem (t f : Fin 2048) :
    (IntOp.remsi .host (IntOp.addi (BitVec.ofNat 32 t) (BitVec.ofNat 32 f)) 2048#32).toNat = (t + f).val := by
  have e : (IntOp.addi (BitVec.ofNat 32 t) (BitVec.ofNat 32 f)).toNat = t.val + f.val := by
    show (BitVec.ofNat 32 t + BitVec.ofNat 32 f).toNat = _
    rw [BitVec.toNat_add, BitVec.toNat_ofNat, BitVec.toNat_ofNat, Nat.mod_eq_of_lt (a := t.val) (by omega), Nat.mod_eq_of_lt (a := f.val) (by omega),
      Nat.mod_eq_of_lt (by omega)]
  rw [rem_toNat (by omega), e, Fin.val_add]

/-- The largest of some reals, from the least element on. -/
theorem fold_peak (x : Fin 2048 → ℝ) (I : Fin 15 → Fin 2048) :
    Finset.fold max (⊥ : EReal) (fun i => ((x (I i) : ℝ) : EReal)) Finset.univ = ((peak x I : ℝ) : EReal) := by
  refine le_antisymm ?_ ?_
  · rw [Finset.fold_max_le]
    exact ⟨bot_le, fun i hi => EReal.coe_le_coe_iff.mpr (Finset.le_sup' (fun i => x (I i)) hi)⟩
  · obtain ⟨i, hi, e⟩ := Finset.exists_mem_eq_sup' (⟨0, Finset.mem_univ _⟩ : (Finset.univ : Finset (Fin 15)).Nonempty) fun i => x (I i)
    rw [Finset.le_fold_max]
    exact Or.inr ⟨i, hi, EReal.coe_le_coe_iff.mpr (le_of_eq e)⟩

theorem weight_real (x : Fin 2048 → ℝ) (I : Fin 15 → Fin 2048) (i : Fin 15) :
    Ideal.div ((Real.exp (x (I i) - peak x I) : ℝ) : EReal) (∑ j, ((Real.exp (x (I j) - peak x I) : ℝ) : EReal)) = ((weight x I i : ℝ) : EReal) := by
  have hp : (∑ j, Real.exp (x (I j) - peak x I)) ≠ 0 :=
    ne_of_gt (Finset.sum_pos (fun j _ => Real.exp_pos _) ⟨0, Finset.mem_univ _⟩)
  rw [← coe_sum, Ideal.div_coe hp, ← EReal.coe_mul]
  congr 1
  unfold weight
  ring

end Cert.Math

end
-- ==== Proof.KernelIdeal.Corr.lean ====
/-
  The correlation row of the kernel, entry by entry.
-/
module

public import proofs.«01_k».proof.Proof.Gen.KernelIdeal.Skeleton
public import proofs.«01_k».proof.Proof.Math.Words
public import Idealize.ShloMosaic.Lib.Pointwise

@[expose] public section

set_option maxRecDepth 16384

noncomputable section

namespace Cert.KernelIdeal.Value

open Cert.KernelIdeal Cert.KernelIdeal.Gen
open Idealize.ShloMosaic Cert.Math

/-- The entries of a 2048 by 2048 table on the diagonal through row `u`, column `j + u - r`, added over the rows `u` that leave `r`. -/
def diag (D : Fin 2048 → Fin 2048 → EReal) (n r j : ℕ) : EReal :=
  ∑ u ∈ Finset.univ.filter (fun u : Fin 2048 => u.val % n = r), D u ⟨(j + u.val - r) % 2048, Nat.mod_lt _ (by norm_num)⟩

theorem diag_mod (D : Fin 2048 → Fin 2048 → EReal) {n r : ℕ} (j : ℕ) : diag D n r (j % 2048) = diag D n r j := by
  unfold diag
  refine Finset.sum_congr rfl fun u hu => ?_
  have hr := (Finset.mem_filter.mp hu).2
  have : r ≤ u.val := hr ▸ Nat.mod_le _ _
  congr 2
  omega

/-- Twice as many classes, taken in pairs. -/
theorem diag_half (D : Fin 2048 → Fin 2048 → EReal) {n r : ℕ} (hr : r < n) (j : ℕ) :
    diag D n r j = diag D (2 * n) r j + diag D (2 * n) (n + r) (j + n) := by
  unfold diag
  have hs : (Finset.univ.filter fun u : Fin 2048 => u.val % n = r)
      = (Finset.univ.filter fun u : Fin 2048 => u.val % (2 * n) = r) ∪ (Finset.univ.filter fun u : Fin 2048 => u.val % (2 * n) = n + r) := by
    rw [← Finset.filter_or]
    refine Finset.filter_congr fun u _ => ?_
    have h1 : u.val % (2 * n) % n = u.val % n := Nat.mod_mod_of_dvd _ (Dvd.intro_left 2 rfl)
    have h2 : u.val % (2 * n) < 2 * n := Nat.mod_lt _ (by omega)
    rw [← h1]
    constructor
    · intro h
      by_cases hc : u.val % (2 * n) < n
      · left; rwa [Nat.mod_eq_of_lt hc] at h
      · right
        rw [Nat.mod_eq_sub_mod (by omega), Nat.mod_eq_of_lt (by omega)] at h
        omega
    · rintro (h | h) <;> rw [h]
      · exact Nat.mod_eq_of_lt hr
      · rw [Nat.add_mod_left, Nat.mod_eq_of_lt hr]
  rw [hs, Finset.sum_union]
  · congr 1
    refine Finset.sum_congr rfl fun u _ => ?_
    congr 2
    omega
  · refine Finset.disjoint_filter.mpr fun u _ h1 h2 => ?_
    omega

/-- One class for each row. -/
theorem diag_all (D : Fin 2048 → Fin 2048 → EReal) {r : ℕ} (hr : r < 2048) (j : ℕ) :
    diag D 2048 r j = D ⟨r, hr⟩ ⟨j % 2048, Nat.mod_lt _ (by norm_num)⟩ := by
  unfold diag
  have hs : (Finset.univ.filter fun u : Fin 2048 => u.val % 2048 = r) = {⟨r, hr⟩} := by
    ext u
    simp only [Finset.mem_filter, Finset.mem_univ, true_and, Finset.mem_singleton, Fin.ext_iff, Nat.mod_eq_of_lt u.isLt]
  rw [hs, Finset.sum_singleton]
  simp

/-- Fold the lower half of the rows onto the upper half, turned. -/
def halve {m n : ℕ} (w : BitVec 32) (h0 : (⟨2, ![m, 2048]⟩ : Shape).Slices ![0, 0] ⟨2, ![n, 2048]⟩)
    (h1 : (⟨2, ![m, 2048]⟩ : Shape).Slices ![n, 0] ⟨2, ![n, 2048]⟩) (hr : (⟨2, ![n, 2048]⟩ : Shape).Rotates 1 none)
    (x : FVec Ideal ⟨2, ![m, 2048]⟩ .f32) : FVec Ideal ⟨2, ![n, 2048]⟩ .f32 :=
  addf (extractStridedSlice _ ![0, 0] x h0) (dynamicRotate 1 w none (extractStridedSlice _ ![n, 0] x h1) hr)

theorem halve_apply {m n : ℕ} (w : BitVec 32) (h0 : (⟨2, ![m, 2048]⟩ : Shape).Slices ![0, 0] ⟨2, ![n, 2048]⟩)
    (h1 : (⟨2, ![m, 2048]⟩ : Shape).Slices ![n, 0] ⟨2, ![n, 2048]⟩) (hr : (⟨2, ![n, 2048]⟩ : Shape).Rotates 1 none)
    (x : FVec Ideal ⟨2, ![m, 2048]⟩ .f32) (r : Fin n) (j : Fin 2048) (hm : m = 2 * n) (hw : w.toNat + n = 2048) (hw' : 0 < w.toNat) :
    halve w h0 h1 hr x (ix2 r j)
      = (x (ix2 ⟨r.val, by omega⟩ j) + x (ix2 ⟨n + r.val, by omega⟩ ⟨(j.val + n) % 2048, Nat.mod_lt _ (by norm_num)⟩) : EReal) := by
  show (extractStridedSlice _ ![0, 0] x h0 (ix2 r j) + dynamicRotate 1 w none (extractStridedSlice _ ![n, 0] x h1) hr (ix2 r j) : EReal) = _
  congr 1
  · refine congrArg x (funext fun a => ?_)
    match a with
    | ⟨0, _⟩ => exact Fin.ext (Nat.zero_add _)
    | ⟨1, _⟩ => exact Fin.ext (Nat.zero_add _)
  · refine congrArg x (funext fun a => ?_)
    match a with
    | ⟨0, _⟩ => rfl
    | ⟨1, _⟩ =>
      refine Fin.ext ((Nat.zero_add _).trans ?_)
      have hj := j.isLt
      have hn := r.isLt
      have e : w.toNat % 2048 = w.toNat := Nat.mod_eq_of_lt (by omega)
      show (j.val + 2048 - w.toNat % 2048) % 2048 = (j.val + n) % 2048
      rw [e]
      congr 1
      omega

/-- A folding step on a table of diagonal sums. -/
theorem halve_diag {m n : ℕ} (w : BitVec 32) (h0 : (⟨2, ![m, 2048]⟩ : Shape).Slices ![0, 0] ⟨2, ![n, 2048]⟩)
    (h1 : (⟨2, ![m, 2048]⟩ : Shape).Slices ![n, 0] ⟨2, ![n, 2048]⟩) (hr : (⟨2, ![n, 2048]⟩ : Shape).Rotates 1 none)
    (x : FVec Ideal ⟨2, ![m, 2048]⟩ .f32) (D : Fin 2048 → Fin 2048 → EReal) (hm : m = 2 * n) (hw : w.toNat + n = 2048) (hw' : 0 < w.toNat)
    (hx : ∀ (r : Fin m) (j : Fin 2048), x (ix2 r j) = diag D m r j) (r : Fin n) (j : Fin 2048) :
    halve w h0 h1 hr x (ix2 r j) = diag D n r j := by
  subst hm
  rw [halve_apply w h0 h1 hr x r j rfl hw hw', hx, hx, diag_mod, diag_half D r.isLt]

/-- Turn the rows whose number has a bit set. -/
def turnRows (b w : BitVec 32) (x : FVec Ideal S8x2048 .f32) : FVec Ideal S8x2048 .f32 :=
  select (cmpi .ne (andi (iota .tc S8x2048 32 [0] iota_S8x2048_d0_w32) (broadcast S8x2048 b)) (broadcast S8x2048 0#32))
    (dynamicRotate 1 w none x rotates_S8x2048_d1) x

theorem turnRows_apply (b w : BitVec 32) (x : FVec Ideal S8x2048 .f32) (k : Fin 8 → ℕ) (hw : w.toNat + b.toNat = 2048) (hw' : 0 < b.toNat)
    (hk : ∀ r : Fin 8, (BitVec.ofNat 32 r.val &&& b = 0#32 ∧ k r = 0) ∨ (BitVec.ofNat 32 r.val &&& b ≠ 0#32 ∧ k r = b.toNat)) (r : Fin 8) (j : Fin 2048) :
    turnRows b w x (ix2 r j) = x (ix2 r ⟨(j.val + k r) % 2048, Nat.mod_lt _ (by norm_num)⟩) := by
  have hi : andi (iota .tc S8x2048 32 [0] iota_S8x2048_d0_w32) (broadcast S8x2048 b) (ix2 r j) = BitVec.ofNat 32 r.val &&& b := by
    pointwise
    rfl
  have hj := j.isLt
  rcases hk r with ⟨h, e⟩ | ⟨h, e⟩
  · have hc : cmpi .ne (andi (iota .tc S8x2048 32 [0] iota_S8x2048_d0_w32) (broadcast S8x2048 b)) (broadcast S8x2048 0#32) (ix2 r j) = 0#1 := by
      show IntOp.cmpi .ne (andi (iota .tc S8x2048 32 [0] iota_S8x2048_d0_w32) (broadcast S8x2048 b) (ix2 r j)) 0#32 = 0#1
      rw [hi, h]; rfl
    show (if _ = 1#1 then _ else _) = _
    rw [hc, if_neg (by decide)]
    congr 2
    exact Fin.ext (by simp [e, Nat.mod_eq_of_lt hj])
  · have hc : cmpi .ne (andi (iota .tc S8x2048 32 [0] iota_S8x2048_d0_w32) (broadcast S8x2048 b)) (broadcast S8x2048 0#32) (ix2 r j) = 1#1 := by
      show IntOp.cmpi .ne (andi (iota .tc S8x2048 32 [0] iota_S8x2048_d0_w32) (broadcast S8x2048 b) (ix2 r j)) 0#32 = 1#1
      rw [hi]
      show BitVec.ofBool _ = _
      rw [bne_iff_ne.mpr h]
      rfl
    show (if _ = 1#1 then _ else _) = _
    rw [hc, if_pos rfl]
    refine congrArg x (funext fun a => ?_)
    match a with
    | ⟨0, _⟩ => rfl
    | ⟨1, _⟩ =>
      refine Fin.ext ?_
      have e' : w.toNat % 2048 = w.toNat := Nat.mod_eq_of_lt (by omega)
      show (j.val + 2048 - w.toNat % 2048) % 2048 = (j.val + k r) % 2048
      rw [e', e]
      congr 1
      omega

/-- The diagonal sums, over all rows. -/
theorem diag_total (D : Fin 2048 → Fin 2048 → EReal) (j : Fin 2048) : (∑ r : Fin 8, diag D 8 r (j.val + r.val)) = ∑ u : Fin 2048, D u (u + j) := by
  have hf := Finset.sum_fiberwise (Finset.univ : Finset (Fin 2048)) (fun u => (⟨u.val % 8, Nat.mod_lt _ (by norm_num)⟩ : Fin 8)) (fun u => D u (u + j))
  rw [← hf]
  refine Finset.sum_congr rfl fun r _ => ?_
  unfold diag
  refine Finset.sum_congr (Finset.filter_congr fun u _ => by rw [Fin.ext_iff]) fun u hu => ?_
  congr 1
  refine Fin.ext ?_
  rw [Fin.val_add]
  show _ % 2048 = _ % 2048
  congr 1
  omega

/-- The last eight rows, each turned by its number. -/
theorem pay22_apply (v112 : FVec Ideal S8x2048 .f32) (D : Fin 2048 → Fin 2048 → EReal)
    (h : ∀ (r : Fin 8) (j : Fin 2048), v112 (ix2 r j) = diag D 8 r j) (z : Fin 1) (j : Fin 2048) :
    k0_pay22 (F := Ideal) v112 (iota .tc S8x2048 32 [0] iota_S8x2048_d0_w32) (dynamicRotate 1 2044#32 none v112 rotates_S8x2048_d1) k0_pay21 0#32 (ix2 z j)
      = ((∑ u : Fin 2048, D u (u + j)) * ((1 / 128 : ℝ) : EReal) : EReal) := by
  have e : k0_pay22 (F := Ideal) v112 (iota .tc S8x2048 32 [0] iota_S8x2048_d0_w32) (dynamicRotate 1 2044#32 none v112 rotates_S8x2048_d1) k0_pay21 0#32
      = mulf (shapeCast S1x2048 (multiReduction .add [0] S2048 (turnRows 1#32 2047#32 (turnRows 2#32 2046#32 (turnRows 4#32 2044#32 v112))) 0x00000000#32 reduces_S8x2048_S2048 (.inl rfl) rfl) shapeCasts_S2048_S1x2048)
          (broadcast S1x2048 (Scalar.ofBits .f32 0x3C000000#32)) := rfl
  rw [e]
  pointwise
  rw [← mean_const, ← diag_total]
  congr 1
  refine Finset.sum_congr rfl fun r _ => ?_
  rw [turnRows_apply 1#32 2047#32 _ (fun r => r.val % 2) (by decide) (by decide) (by decide),
    turnRows_apply 2#32 2046#32 _ (fun r => r.val / 2 % 2 * 2) (by decide) (by decide) (by decide),
    turnRows_apply 4#32 2044#32 _ (fun r => r.val / 4 * 4) (by decide) (by decide) (by decide), h]
  have hk : (((j.val + r.val % 2) % 2048 + r.val / 2 % 2 * 2) % 2048 + r.val / 4 * 4) % 2048 = (j.val + r.val) % 2048 := by omega
  exact (congrArg (diag D 8 r.val) hk).trans (diag_mod D _)

/-- The products of 512 columns with the other array, in three parts. -/
def quarter (o : ℕ) (hs : S128x2048.Slices ![0, o] S128x512) (hi lo khi klo : FVec Ideal S128x2048 .bf16) : FVec Ideal S512x2048 .f32 :=
  addf (addf (matmul dot_S128x512_S128x2048_S512x2048_0_0_1_1_n_n none (extractStridedSlice S128x512 ![0, o] hi hs) khi (constant S512x2048 .f32 0x00000000#32))
      (matmul dot_S128x512_S128x2048_S512x2048_0_0_1_1_n_n none (extractStridedSlice S128x512 ![0, o] hi hs) klo (constant S512x2048 .f32 0x00000000#32)))
    (matmul dot_S128x512_S128x2048_S512x2048_0_0_1_1_n_n none (extractStridedSlice S128x512 ![0, o] lo hs) khi (constant S512x2048 .f32 0x00000000#32))

/-- The part of an array kept by the shorter format, and the rest. -/
def highPart (x : FVec Ideal S128x2048 .f32) : FVec Ideal S128x2048 .bf16 := truncf .bf16 x bitsLt_bf16_f32
def lowPart (x : FVec Ideal S128x2048 .f32) : FVec Ideal S128x2048 .bf16 :=
  truncf .bf16 (subf x (extf .f32 (truncf .bf16 x bitsLt_bf16_f32) bitsLt_bf16_f32)) bitsLt_bf16_f32

theorem part_apply (s : S128x2048.Idx → EReal) (o : ℕ) (hs : S128x2048.Slices ![0, o] S128x512) (f : Fin 128) (r : Fin 512) (ho : o + r.val < 2048) :
    extractStridedSlice S128x512 ![0, o] s hs (ix2 f r) = s (ix2 f ⟨o + r.val, ho⟩) := by
  refine congrArg s (funext fun a => ?_)
  match a with
  | ⟨0, _⟩ => exact Fin.ext (Nat.zero_add _)
  | ⟨1, _⟩ => rfl

theorem product_apply (x : FVec Ideal S128x512 .bf16) (y : FVec Ideal S128x2048 .bf16) (r : Fin 512) (j : Fin 2048) :
    matmul dot_S128x512_S128x2048_S512x2048_0_0_1_1_n_n none x y (constant S512x2048 .f32 0x00000000#32) (ix2 r j)
      = (∑ f : Fin 128, x (ix2 f r) * y (ix2 f j) : EReal) := by
  pointwise

theorem lowPart_apply {x : FVec Ideal S128x2048 .f32} {a : Fin 128 → Fin 2048 → ℝ} (hx : ∀ f t, x (ix2 f t) = ((a f t : ℝ) : EReal)) (f : Fin 128) (t : Fin 2048) :
    lowPart x (ix2 f t) = (0 : EReal) := by
  show (x (ix2 f t) - x (ix2 f t) : EReal) = 0
  rw [hx, ← EReal.coe_sub, sub_self]; rfl

/-- The table of products of two arrays' columns. -/
def table (a b : Fin 128 → Fin 2048 → ℝ) (u j : Fin 2048) : EReal := ∑ f, ((a f u : ℝ) : EReal) * ((b f j : ℝ) : EReal)

theorem quarter_apply {x y : FVec Ideal S128x2048 .f32} {a b : Fin 128 → Fin 2048 → ℝ} (hx : ∀ f t, x (ix2 f t) = ((a f t : ℝ) : EReal))
    (hy : ∀ f t, y (ix2 f t) = ((b f t : ℝ) : EReal)) (o : ℕ) (hs : S128x2048.Slices ![0, o] S128x512) (r : Fin 512) (j : Fin 2048) (ho : o + r.val < 2048) :
    quarter o hs (highPart x) (lowPart x) (highPart y) (lowPart y) (ix2 r j) = table a b ⟨o + r.val, ho⟩ j := by
  refine (congrArg₂ (fun p q : EReal => p + q) (congrArg₂ (fun p q : EReal => p + q) (product_apply _ _ r j) (product_apply _ _ r j)) (product_apply _ _ r j)).trans ?_
  show (_ + _ + _ : EReal) = _
  rw [Finset.sum_eq_zero (f := fun f => _ * lowPart y (ix2 f j)) (fun f _ => by rw [lowPart_apply hy, mul_zero]),
    Finset.sum_eq_zero (f := fun f => extractStridedSlice S128x512 ![0, o] (lowPart x) hs (ix2 f r) * highPart y (ix2 f j)) (fun f _ => by rw [part_apply _ o hs f r ho, lowPart_apply hx, zero_mul]), add_zero, add_zero]
  refine Finset.sum_congr rfl fun f _ => ?_
  rw [part_apply _ o hs f r ho]
  show (x _ * y _ : EReal) = _
  rw [hx, hy]

theorem turned_apply (w : BitVec 32) (x : FVec Ideal S512x2048 .f32) (o : ℕ) (hw : w.toNat + o = 2048) (ho : 0 < o) (r : Fin 512) (j : Fin 2048) :
    dynamicRotate 1 w none x rotates_S512x2048_d1 (ix2 r j) = x (ix2 r ⟨(j.val + o) % 2048, Nat.mod_lt _ (by norm_num)⟩) := by
  refine congrArg x (funext fun a => ?_)
  match a with
  | ⟨0, _⟩ => rfl
  | ⟨1, _⟩ =>
    refine Fin.ext ?_
    have hj := j.isLt
    have e : w.toNat % 2048 = w.toNat := Nat.mod_eq_of_lt (by omega)
    show (j.val + 2048 - w.toNat % 2048) % 2048 = (j.val + o) % 2048
    rw [e]
    congr 1
    omega

/-- The four groups of columns, each turned to the first group's place. -/
def quarters (hi lo khi klo : FVec Ideal S128x2048 .bf16) : FVec Ideal S512x2048 .f32 :=
  addf (addf (addf (quarter 0 slices_S128x2048_o0_0_S128x512 hi lo khi klo)
      (dynamicRotate 1 1536#32 none (quarter 512 slices_S128x2048_o0_512_S128x512 hi lo khi klo) rotates_S512x2048_d1))
      (dynamicRotate 1 1024#32 none (quarter 1024 slices_S128x2048_o0_1024_S128x512 hi lo khi klo) rotates_S512x2048_d1))
    (dynamicRotate 1 512#32 none (quarter 1536 slices_S128x2048_o0_1536_S128x512 hi lo khi klo) rotates_S512x2048_d1)

theorem quarters_apply {x y : FVec Ideal S128x2048 .f32} {a b : Fin 128 → Fin 2048 → ℝ} (hx : ∀ f t, x (ix2 f t) = ((a f t : ℝ) : EReal))
    (hy : ∀ f t, y (ix2 f t) = ((b f t : ℝ) : EReal)) (r : Fin 512) (j : Fin 2048) :
    quarters (highPart x) (lowPart x) (highPart y) (lowPart y) (ix2 r j) = diag (table a b) 512 r j := by
  have hr := r.isLt
  have hj := j.isLt
  show (quarter 0 _ _ _ _ _ (ix2 r j) + dynamicRotate 1 _ none (quarter 512 _ _ _ _ _) _ (ix2 r j)
    + dynamicRotate 1 _ none (quarter 1024 _ _ _ _ _) _ (ix2 r j) + dynamicRotate 1 _ none (quarter 1536 _ _ _ _ _) _ (ix2 r j) : EReal) = _
  rw [turned_apply 1536#32 _ 512 (by decide) (by norm_num), turned_apply 1024#32 _ 1024 (by decide) (by norm_num), turned_apply 512#32 _ 1536 (by decide) (by norm_num),
    quarter_apply hx hy 0 _ r _ (by omega), quarter_apply hx hy 512 _ r _ (by omega), quarter_apply hx hy 1024 _ r _ (by omega), quarter_apply hx hy 1536 _ r _ (by omega),
    diag_half _ hr, diag_half _ (by omega : r.val < 2 * 512), diag_half _ (by omega : 512 + r.val < 2 * 512)]
  show _ = diag _ 2048 _ _ + diag _ 2048 _ _ + (diag _ 2048 _ _ + diag _ 2048 _ _)
  rw [diag_all _ (by omega), diag_all _ (by omega), diag_all _ (by omega), diag_all _ (by omega)]
  have e0 : (⟨0 + r.val, by omega⟩ : Fin 2048) = ⟨r.val, by omega⟩ := Fin.ext (Nat.zero_add _)
  have e1 : (⟨j.val % 2048, Nat.mod_lt _ (by norm_num)⟩ : Fin 2048) = j := Fin.ext (Nat.mod_eq_of_lt hj)
  have e2 : (⟨1536 + r.val, by omega⟩ : Fin 2048) = ⟨2 * 512 + (512 + r.val), by omega⟩ := Fin.ext (by show 1536 + r.val = 2 * 512 + (512 + r.val); omega)
  have e3 : (⟨(j.val + 1536) % 2048, Nat.mod_lt _ (by norm_num)⟩ : Fin 2048) = ⟨(j.val + 512 + 2 * 512) % 2048, Nat.mod_lt _ (by norm_num)⟩ :=
    Fin.ext (by show (j.val + 1536) % 2048 = (j.val + 512 + 2 * 512) % 2048; omega)
  rw [e0, e1, e2, e3]
  simp only [add_assoc]
  congr 1
  exact add_left_comm _ _ _

/-- The eight rows left by the folding steps. -/
def eight (hi lo khi klo : FVec Ideal S128x2048 .bf16) : FVec Ideal S8x2048 .f32 :=
  halve 2040#32 slices_S16x2048_o0_0_S8x2048 slices_S16x2048_o8_0_S8x2048 rotates_S8x2048_d1
    (halve 2032#32 slices_S32x2048_o0_0_S16x2048 slices_S32x2048_o16_0_S16x2048 rotates_S16x2048_d1
      (halve 2016#32 slices_S64x2048_o0_0_S32x2048 slices_S64x2048_o32_0_S32x2048 rotates_S32x2048_d1
        (halve 1984#32 slices_S128x2048_o0_0_S64x2048 slices_S128x2048_o64_0_S64x2048 rotates_S64x2048_d1
          (halve 1920#32 slices_S256x2048_o0_0_S128x2048 slices_S256x2048_o128_0_S128x2048 rotates_S128x2048_d1
            (halve 1792#32 slices_S512x2048_o0_0_S256x2048 slices_S512x2048_o256_0_S256x2048 rotates_S256x2048_d1 (quarters hi lo khi klo))))))

theorem eight_apply {x y : FVec Ideal S128x2048 .f32} {a b : Fin 128 → Fin 2048 → ℝ} (hx : ∀ f t, x (ix2 f t) = ((a f t : ℝ) : EReal))
    (hy : ∀ f t, y (ix2 f t) = ((b f t : ℝ) : EReal)) (r : Fin 8) (j : Fin 2048) :
    eight (highPart x) (lowPart x) (highPart y) (lowPart y) (ix2 r j) = diag (table a b) 8 r j :=
  halve_diag _ _ _ _ _ _ rfl rfl (by decide) (halve_diag _ _ _ _ _ _ rfl rfl (by decide) (halve_diag _ _ _ _ _ _ rfl rfl (by decide)
    (halve_diag _ _ _ _ _ _ rfl rfl (by decide) (halve_diag _ _ _ _ _ _ rfl rfl (by decide) (halve_diag _ _ _ _ _ _ rfl rfl (by decide)
      (quarters_apply hx hy)))))) r j

theorem pay19_eq (v25 : FVec Ideal S128x2048 .f32) (v27 v29 v31 : FVec Ideal S128x256 .f32) (v32 v34 v36 v38 v40 : FVec Ideal S1x128x256 .f32) :
    k0_pay19 (k0_pay12 v25) (k0_pay13 v25) (k0_pay14 v27 v29 v31 v32 v34 v36 v38 v40) (k0_pay15 v27 v29 v31 v32 v34 v36 v38 v40)
      (k0_pay16 v25 v27 v29 v31 v32 v34 v36 v38 v40) (k0_pay17 v25 v27 v29 v31 v32 v34 v36 v38 v40) (k0_pay18 v25) (constant S512x2048 .f32 0x00000000#32)
    = eight (highPart v25) (lowPart v25) (highPart (k0_pay11 v27 v29 v31 v32 v34 v36 v38 v40)) (lowPart (k0_pay11 v27 v29 v31 v32 v34 v36 v38 v40)) := rfl

/-- The kernel's correlation row. -/
def corrRow (x y : FVec Ideal S128x2048 .f32) : FVec Ideal S1x2048 .f32 :=
  k0_pay22 (F := Ideal) (eight (highPart x) (lowPart x) (highPart y) (lowPart y)) (iota .tc S8x2048 32 [0] iota_S8x2048_d0_w32)
    (dynamicRotate 1 2044#32 none (eight (highPart x) (lowPart x) (highPart y) (lowPart y)) rotates_S8x2048_d1) k0_pay21 0#32

theorem corrRow_apply {x y : FVec Ideal S128x2048 .f32} {a b : Fin 128 → Fin 2048 → ℝ} (hx : ∀ f t, x (ix2 f t) = ((a f t : ℝ) : EReal))
    (hy : ∀ f t, y (ix2 f t) = ((b f t : ℝ) : EReal)) (z : Fin 1) (j : Fin 2048) :
    corrRow x y (ix2 z j) = (((∑ f, ∑ u, a f (u + -j) * b f u) / 128 : ℝ) : EReal) := by
  unfold corrRow
  rw [pay22_apply _ (table a b) (eight_apply hx hy)]
  have e : (∑ u : Fin 2048, table a b u (u + j)) = ((∑ u : Fin 2048, ∑ f, a f u * b f (u + j) : ℝ) : EReal) := by
    rw [coe_sum]
    refine Finset.sum_congr rfl fun u _ => ?_
    rw [coe_sum]
    exact Finset.sum_congr rfl fun f _ => (EReal.coe_mul _ _).symm
  have e' : (∑ u : Fin 2048, ∑ f, a f u * b f (u + j)) = ∑ f, ∑ u, a f (u + -j) * b f u := by
    rw [Finset.sum_comm]
    refine Finset.sum_congr rfl fun f _ => ?_
    refine Fintype.sum_equiv (Equiv.addRight j) _ _ fun u => ?_
    simp only [Equiv.coe_addRight, add_neg_cancel_right]
  rw [e, ← EReal.coe_mul, mul_one_div, e']

end Cert.KernelIdeal.Value
-- ==== Proof.KernelIdeal.Rounds.lean ====
/-
  The kernel's rounds: each finds the largest entry of the row, its first place, and masks it.
-/
module

public import proofs.«01_k».proof.Proof.KernelIdeal.Corr

@[expose] public section

set_option maxRecDepth 16384

noncomputable section

namespace Cert.KernelIdeal.Value

open Cert.KernelIdeal Cert.KernelIdeal.Gen
open Idealize.ShloMosaic Cert.Math

/-- The numbers of the lags. -/
def lags : IVec S1x2048 32 := iota .tc S1x2048 32 [1] iota_S1x2048_d1_w32
/-- The largest entry. -/
def rowMax (x : FVec Ideal S1x2048 .f32) : Ideal .f32 :=
  extractAt ![0, 0, 0] (shapeCast S1x1x1 (multiReduction .maximumf [1, 2] S1 (shapeCast S1x1x2048 x shapeCasts_S1x2048_S1x1x2048) 0xFF800000#32 reduces_S1x1x2048_S1 (.inl rfl) rfl) shapeCasts_S1_S1x1x1) inpos_S1x1x1_p0_0_0
/-- The number of each lag that holds the largest entry, 2048 elsewhere. -/
def keyOf (x : FVec Ideal S1x2048 .f32) : IVec S1x1x2048 32 :=
  shapeCast S1x1x2048 (select (cmpf .oeq x (broadcast S1x2048 (rowMax x))) lags (broadcast S1x2048 2048#32)) shapeCasts_S1x2048_S1x1x2048
/-- The least number. -/
def leastKey (k : IVec S1x1x2048 32) : BitVec 32 :=
  extractAt ![0, 0, 0] (shapeCast S1x1x1 (multiReductionI .minsi [1, 2] S1 k 2147483647#32 reduces_S1x1x2048_S1 rfl) shapeCasts_S1_S1x1x1) inpos_S1x1x1_p0_0_0
/-- The row with one lag masked. -/
def nextRow (x : FVec Ideal S1x2048 .f32) : FVec Ideal S1x2048 .f32 :=
  select (cmpi .eq lags (broadcast S1x2048 (leastKey (keyOf x)))) (broadcast S1x2048 (Named.named κ "mask" 0xFF61B1E6#32)) x

/-- A maximum over a finite family is one of its entries, and the largest. -/
theorem fold_max_spec {ι : Type} [Fintype ι] [Nonempty ι] (y : ι → EReal) :
    ∃ p, (Finset.univ.fold max ⊥ y : EReal) = y p ∧ ∀ u, y u ≤ y p := by
  obtain ⟨p, -, hp⟩ := Finset.exists_max_image Finset.univ y Finset.univ_nonempty
  have hp' : ∀ u, y u ≤ y p := fun u => hp u (Finset.mem_univ u)
  exact ⟨p, le_antisymm (Finset.fold_max_le _ |>.mpr ⟨bot_le, fun u _ => hp' u⟩) (Finset.le_fold_max _ |>.mpr (Or.inr ⟨p, Finset.mem_univ p, le_rfl⟩)), hp'⟩

/-- The signed minimum over a finite family is below every entry, and one of them or the start. -/
theorem fold_min_spec {ι : Type} (k : ι → BitVec 32) (b : BitVec 32) (s : Finset ι) :
    (∀ i ∈ s, (s.fold IntOp.minsi b k).toInt ≤ (k i).toInt) ∧ (s.fold IntOp.minsi b k = b ∨ ∃ i ∈ s, s.fold IntOp.minsi b k = k i) := by
  classical
  induction s using Finset.induction_on with
  | empty => exact ⟨fun i h => absurd h (Finset.notMem_empty i), Or.inl (Finset.fold_empty)⟩
  | insert a s ha ih =>
    rw [Finset.fold_insert ha]
    obtain ⟨h1, h2⟩ := ih
    have hm : ∀ u v : BitVec 32, (IntOp.minsi u v = u ∧ u.toInt ≤ v.toInt) ∨ (IntOp.minsi u v = v ∧ v.toInt ≤ u.toInt) := by
      intro u v
      unfold IntOp.minsi
      by_cases h : u.slt v
      · left
        rw [BitVec.slt_iff_toInt_lt] at h
        simp [BitVec.slt_iff_toInt_lt, h]
        omega
      · right
        rw [BitVec.slt_iff_toInt_lt] at h
        simp [BitVec.slt_iff_toInt_lt, h]
        omega
    rcases hm (k a) (s.fold IntOp.minsi b k) with ⟨e, h⟩ | ⟨e, h⟩ <;> rw [e]
    · refine ⟨fun i hi => ?_, Or.inr ⟨a, Finset.mem_insert_self _ _, rfl⟩⟩
      rcases Finset.mem_insert.mp hi with rfl | hi
      · exact le_rfl
      · exact h.trans (h1 i hi)
    · refine ⟨fun i hi => ?_, h2.imp id fun ⟨i, hi, e⟩ => ⟨i, Finset.mem_insert_of_mem hi, e⟩⟩
      rcases Finset.mem_insert.mp hi with rfl | hi
      · exact h
      · exact h1 i hi

theorem rowMax_spec (x : FVec Ideal S1x2048 .f32) : ∃ p : Fin 2048, rowMax x = x (ix2 0 p) ∧ ∀ u, (x (ix2 0 u) : EReal) ≤ x (ix2 0 p) := by
  have e : rowMax x = (Finset.univ.fold max ⊥ (fun q : Fin 1 × Fin 2048 => x (ix2 0 q.2)) : EReal) := by
    pointwise [rowMax]
    rw [bot_const]
  obtain ⟨p, h1, h2⟩ := fold_max_spec (fun q : Fin 1 × Fin 2048 => (x (ix2 0 q.2) : EReal))
  exact ⟨p.2, e.trans h1, fun u => h2 (0, u)⟩

theorem keyOf_apply (x : FVec Ideal S1x2048 .f32) (a b : Fin 1) (c : Fin 2048) :
    keyOf x (ix3 a b c) = if x (ix2 0 c) = rowMax x then BitVec.ofNat 32 c.val else 2048#32 := by
  pointwise [keyOf, lags]

theorem nextRow_apply (x : FVec Ideal S1x2048 .f32) (a : Fin 1) (c : Fin 2048) :
    (nextRow x (ix2 a c) : EReal) = if BitVec.ofNat 32 c.val = leastKey (keyOf x) then ⊥ else x (ix2 a c) := by
  pointwise [nextRow, lags]
  by_cases h : BitVec.ofNat 32 c.val = leastKey (keyOf x)
  · rw [if_pos h, h]
    show (if BitVec.ofBool _ = 1#1 then _ else _) = _
    rw [if_pos (by simp)]
    exact IdealRules.named_const.ideal_named_scalar _ _ _ _ rfl
  · rw [if_neg h]
    have hb : (BitVec.ofNat 32 c.val == leastKey (keyOf x)) = false := beq_eq_false_iff_ne.mpr h
    refine if_neg ?_
    show ¬BitVec.ofBool (BitVec.ofNat 32 c.val == leastKey (keyOf x)) = 1#1
    rw [hb]
    decide

/-- The place found in a round. -/
def placeOf (x : FVec Ideal S1x2048 .f32) : Fin 2048 := ⟨(leastKey (keyOf x)).toNat % 2048, Nat.mod_lt _ (by norm_num)⟩

theorem ofNat_toInt {c : ℕ} (h : c ≤ 2048) : (BitVec.ofNat 32 c).toInt = c := by
  rw [BitVec.toInt_eq_toNat_cond, BitVec.toNat_ofNat]
  split <;> omega

/-- The place found holds the largest entry. -/
theorem place_spec (x : FVec Ideal S1x2048 .f32) :
    leastKey (keyOf x) = BitVec.ofNat 32 (placeOf x).val ∧ rowMax x = x (ix2 0 (placeOf x)) ∧ ∀ u, (x (ix2 0 u) : EReal) ≤ x (ix2 0 (placeOf x)) := by
  obtain ⟨p, hp, hmax⟩ := rowMax_spec x
  have e : leastKey (keyOf x) = Finset.univ.fold IntOp.minsi 2147483647#32 (fun q : Fin 1 × Fin 2048 => keyOf x (ix3 0 q.1 q.2)) := by
    pointwise [leastKey]
  obtain ⟨h1, h2⟩ := fold_min_spec (fun q : Fin 1 × Fin 2048 => keyOf x (ix3 0 q.1 q.2)) 2147483647#32 Finset.univ
  rw [← e] at h1 h2
  have hlow : (leastKey (keyOf x)).toInt ≤ p.val := by
    have := h1 (0, p) (Finset.mem_univ _)
    rw [keyOf_apply, if_pos hp.symm, ofNat_toInt p.isLt.le] at this
    exact this
  have hpl := p.isLt
  obtain ⟨q, hq, hxq⟩ : ∃ q : Fin 2048, leastKey (keyOf x) = BitVec.ofNat 32 q.val ∧ x (ix2 0 q) = rowMax x := by
    rcases h2 with h | ⟨q, -, h⟩
    · rw [h] at hlow
      have : (2147483647#32).toInt = 2147483647 := by decide
      omega
    · rw [keyOf_apply] at h
      by_cases hc : x (ix2 0 q.2) = rowMax x
      · rw [if_pos hc] at h
        exact ⟨q.2, h, hc⟩
      · rw [if_neg hc] at h
        rw [h] at hlow
        have : (2048#32).toInt = 2048 := by decide
        omega
  have hpq : placeOf x = q := by
    refine Fin.ext ?_
    show (leastKey (keyOf x)).toNat % 2048 = q.val
    rw [hq, BitVec.toNat_ofNat]
    have := q.isLt
    omega
  rw [hpq]
  exact ⟨hq, hxq.symm, fun u => hxq.symm ▸ hp.symm ▸ hmax u⟩

/-- A row as a function of the lag. -/
def entries (x : FVec Ideal S1x2048 .f32) (c : Fin 2048) : EReal := x (ix2 0 c)

theorem entries_next (x : FVec Ideal S1x2048 .f32) : entries (nextRow x) = mask (entries x) (placeOf x) := by
  funext c
  show (nextRow x (ix2 0 c) : EReal) = if c = placeOf x then ⊥ else x (ix2 0 c)
  rw [nextRow_apply]
  refine if_congr ?_ rfl rfl
  rw [(place_spec x).1]
  constructor
  · intro h
    have := congrArg BitVec.toInt h
    rw [ofNat_toInt c.isLt.le, ofNat_toInt (placeOf x).isLt.le] at this
    exact Fin.ext (by exact_mod_cast this)
  · rintro rfl
    rfl

/-- The row before each round. -/
def rowAt (x : FVec Ideal S1x2048 .f32) : ℕ → FVec Ideal S1x2048 .f32
  | 0 => x
  | i + 1 => nextRow (rowAt x i)

/-- The rounds of the kernel choose, one by one, the fifteen largest entries. -/
theorem rowAt_rounds (x : FVec Ideal S1x2048 .f32) (r : Fin 2048 → ℝ) (h : ∀ c, entries x c = ((r c : ℝ) : EReal)) :
    (∀ i < 15, ∀ j < 15, placeOf (rowAt x i) = placeOf (rowAt x j) → i = j)
      ∧ (∀ i < 15, (rowMax (rowAt x i) : EReal) = ((r (placeOf (rowAt x i)) : ℝ) : EReal))
      ∧ (∀ u, (∀ i < 15, placeOf (rowAt x i) ≠ u) → ∀ i < 15, r u ≤ r (placeOf (rowAt x i)))
      ∧ ∀ i < 15, ∀ j < 15, i ≤ j → r (placeOf (rowAt x j)) ≤ r (placeOf (rowAt x i)) := by
  obtain ⟨h1, h2, h3, h4⟩ := rounds r (fun i => entries (rowAt x i)) (fun i => placeOf (rowAt x i)) 15 (by norm_num) (funext h)
    (fun i _ => (place_spec (rowAt x i)).2.2) (fun i _ => entries_next (rowAt x i))
  exact ⟨h1, fun i hi => (place_spec (rowAt x i)).2.1.trans (h2 i hi), h3, h4⟩

end Cert.KernelIdeal.Value
-- ==== Proof.KernelIdeal.RunA.lean ====
/-
  The kernel body run at a grid point, on any whole staging memrefs, in each of its three cases: a projection point, the
  aggregation point and a later output point. Each run finds the pieces that its stores write, as a subtype.
-/
module

public import proofs.«01_k».proof.Proof.Gen.KernelIdeal.Frame
public import proofs.«01_k».proof.Proof.Gen.KernelIdeal.Skeleton
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's first branch: a projection point. -/
abbrev CondA (i : grid0.Coords) : Prop := k0_cond1 i = 1#1
/-- The condition of the second: the aggregation point. -/
abbrev CondB (i : grid0.Coords) : Prop := Scalar.cmpi .ne (Scalar.extui (Scalar.cmpi .eq (BitVec.ofNat 32 (i 0).val) 8#32)) 0#32 = 1#1
/-- The condition of the third: an output point. -/
abbrev CondC (i : grid0.Coords) : Prop := k0_cond3 i = 1#1

set_option maxHeartbeats 4000000 in
/-- A projection point stores one slot of each of the three projection buffers. -/
noncomputable def runA (c : Dev nD) (i : grid0.Coords) (arg1 : Memref sig .tc .vmem S2x256x1024 .f32) (harg1 : arg1.IsWhole) (arg2 : Memref sig .tc .vmem S2x256x1024 .f32) (harg2 : arg2.IsWhole) (arg3 : Memref sig .tc .vmem S2x256x1024 .f32) (harg3 : arg3.IsWhole) (arg4 : Memref sig .tc .vmem S1024x64 .f32) (harg4 : arg4.IsWhole) (arg5 : Memref sig .tc .vmem S64x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S2x128x1024 .f32) (harg12 : arg12.IsWhole) (hc0 : CondA i) (hc1 : ¬CondB i) (hc2 : ¬CondC i)
    (x1 x2 x3 : Vec F S2x256x1024 .f32) (x4 : Vec F S1024x64 .f32) (x5 : Vec F S64x1 .f32) (x6 : Vec F S1024x1024 .f32) (x7 : Vec F S1x1024 .f32) (x8 : Vec F S1x1024x1024 .f32) (x9 x10 x11 : Vec F S8x128x256 .f32) (x12 : Vec F S2x128x1024 .f32) :
    Σ' (L9 : List (View.Piece (Elt F) S8x128x256 .f32)), Σ' (L10 : List (View.Piece (Elt F) S8x128x256 .f32)), { L11 : List (View.Piece (Elt F) S8x128x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ owns (c : Thread nD τ) arg12 fullShare x12) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]; · iexact H11
    iexists _; isplitr; · ipureintro; exact harg12.read_unread _
    iexact H12

end Cert.KernelIdeal.Body

end
-- ==== Proof.KernelIdeal.RunB.lean ====
/-
  The kernel body run at a grid point, on any whole staging memrefs, in each of its three cases: a projection point, the
  aggregation point and a later output point. Each run finds the pieces that its stores write, as a subtype.
-/
module

public import proofs.«01_k».proof.Proof.Gen.KernelIdeal.Frame
public import proofs.«01_k».proof.Proof.Gen.KernelIdeal.Skeleton
public import Idealize.ShloMosaic.Lib.Tactic
public import proofs.«01_k».proof.Proof.KernelIdeal.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The points whose output block is read from the head of the product buffer. -/
class OffZero (i : grid0.Coords) : Prop where
  eq : k0_off2 i = ![0, 0, 0]

/-- The offsets of that read, in closed form. -/
instance closedOff2 (i : grid0.Coords) [OffZero i] : ClosedOff (k0_off2 i) := ⟨![0, 0, 0], OffZero.eq⟩

set_option maxHeartbeats 4000000 in
/-- The aggregation point stores both rows of the product buffer and the first output block. -/
noncomputable def runB (c : Dev nD) (i : grid0.Coords) (arg1 : Memref sig .tc .vmem S2x256x1024 .f32) (harg1 : arg1.IsWhole) (arg2 : Memref sig .tc .vmem S2x256x1024 .f32) (harg2 : arg2.IsWhole) (arg3 : Memref sig .tc .vmem S2x256x1024 .f32) (harg3 : arg3.IsWhole) (arg4 : Memref sig .tc .vmem S1024x64 .f32) (harg4 : arg4.IsWhole) (arg5 : Memref sig .tc .vmem S64x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S2x128x1024 .f32) (harg12 : arg12.IsWhole) (hc0 : ¬CondA i) (hc1 : CondB i) (hc2 : CondC i) [OffZero i]
    (x1 x2 x3 : Vec F S2x256x1024 .f32) (x4 : Vec F S1024x64 .f32) (x5 : Vec F S64x1 .f32) (x6 : Vec F S1024x1024 .f32) (x7 : Vec F S1x1024 .f32) (x8 : Vec F S1x1024x1024 .f32) (x9 x10 x11 : Vec F S8x128x256 .f32) (x12 : Vec F S2x128x1024 .f32) :
    Σ' (L8 : List (View.Piece (Elt F) S1x1024x1024 .f32)), { L12 : List (View.Piece (Elt F) S2x128x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread x8) L8) ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} arg12.view.writes (Elt F) (harg12.unread x12) L12)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__fused_kernel_eq_skeleton]; unfold cc0__fused_kernel_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexact H12

end Cert.KernelIdeal.Body

end
-- ==== Proof.KernelIdeal.RunC.lean ====
/-
  The kernel body run at a grid point, on any whole staging memrefs, in each of its three cases: a projection point, the
  aggregation point and a later output point. Each run finds the pieces that its stores write, as a subtype.
-/
module

public import proofs.«01_k».proof.Proof.Gen.KernelIdeal.Frame
public import proofs.«01_k».proof.Proof.Gen.KernelIdeal.Skeleton
public import Idealize.ShloMosaic.Lib.Tactic
public import proofs.«01_k».proof.Proof.KernelIdeal.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A later output point stores its output block. -/
noncomputable def runC (c : Dev nD) (i : grid0.Coords) (arg1 : Memref sig .tc .vmem S2x256x1024 .f32) (harg1 : arg1.IsWhole) (arg2 : Memref sig .tc .vmem S2x256x1024 .f32) (harg2 : arg2.IsWhole) (arg3 : Memref sig .tc .vmem S2x256x1024 .f32) (harg3 : arg3.IsWhole) (arg4 : Memref sig .tc .vmem S1024x64 .f32) (harg4 : arg4.IsWhole) (arg5 : Memref sig .tc .vmem S64x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S8x128x256 .f32) (harg9 : arg9.IsWhole) (arg10 : Memref sig .tc .vmem S8x128x256 .f32) (harg10 : arg10.IsWhole) (arg11 : Memref sig .tc .vmem S8x128x256 .f32) (harg11 : arg11.IsWhole) (arg12 : Memref sig .tc .vmem S2x128x1024 .f32) (harg12 : arg12.IsWhole) (hc0 : ¬CondA i) (hc1 : ¬CondB i) (hc2 : CondC i)
    (x1 x2 x3 : Vec F S2x256x1024 .f32) (x4 : Vec F S1024x64 .f32) (x5 : Vec F S64x1 .f32) (x6 : Vec F S1024x1024 .f32) (x7 : Vec F S1x1024 .f32) (x8 : Vec F S1x1024x1024 .f32) (x9 x10 x11 : Vec F S8x128x256 .f32) (x12 : Vec F S2x128x1024 .f32) :
    { L8 : List (View.Piece (Elt F) S1x1024x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread x8) L8) ∗ owns (c : Thread nD τ) arg9 fullShare x9 ∗ owns (c : Thread nD τ) arg10 fullShare x10 ∗ owns (c : Thread nD τ) arg11 fullShare x11 ∗ owns (c : Thread nD τ) arg12 fullShare x12) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12

end Cert.KernelIdeal.Body

end
-- ==== Proof.KernelIdeal.Body.lean ====
/-
  The kernel's launch: what each scratch buffer holds between points, the proof data of the pipeline, the body obligation
  at every point, and the frame of the whole program. The first eight points fill the three projection buffers one slot
  each; point 8 fills the product buffer from the full projection buffers; points 8 to 11 store the output blocks.
-/
module

public import proofs.«01_k».proof.Proof.KernelIdeal.RunA
public import proofs.«01_k».proof.Proof.KernelIdeal.RunB
public import proofs.«01_k».proof.Proof.KernelIdeal.RunC
public import Idealize.ShloMosaic.Lib.WritesUnit
public import Idealize.ShloMosaic.Lib.WholeRead
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which case a point is in -/

theorem condA_iff : ∀ t : Fin cfg0.N, CondA (grid0.coords t) ↔ t.val < 8 :=
  (by decide +kernel : ∀ t : Fin grid0.N, CondA (grid0.coords t) ↔ t.val < 8)
theorem condB_iff : ∀ t : Fin cfg0.N, CondB (grid0.coords t) ↔ t.val = 8 :=
  (by decide +kernel : ∀ t : Fin grid0.N, CondB (grid0.coords t) ↔ t.val = 8)
theorem condC_iff : ∀ t : Fin cfg0.N, CondC (grid0.coords t) ↔ 8 ≤ t.val :=
  (by decide +kernel : ∀ t : Fin grid0.N, CondC (grid0.coords t) ↔ 8 ≤ t.val)
theorem coords_val : ∀ t : Fin cfg0.N, (grid0.coords t 0).val = t.val :=
  (by decide +kernel : ∀ t : Fin grid0.N, (grid0.coords t 0).val = t.val)
theorem off2_eq : ∀ t : Fin cfg0.N, 8 ≤ t.val → k0_off2 (grid0.coords t) = ![(t.val - 8) / 2, 0, 0] :=
  (by decide +kernel : ∀ t : Fin grid0.N, 8 ≤ t.val → k0_off2 (grid0.coords t) = ![(t.val - 8) / 2, 0, 0])

/-- The head of the product buffer is what point 8 reads. -/
theorem offZero_of (t : Fin cfg0.N) (h : t.val = 8) : OffZero (grid0.coords t) :=
  ⟨by rw [off2_eq t (by omega), h]⟩

theorem idle7_of : ∀ t : Fin cfg0.N, t.val < 8 → cfg0.idle 7 (grid0.coords t) = true :=
  (by decide +kernel : ∀ t : Fin grid0.N, t.val < 8 → cfg0.idle 7 (grid0.coords t) = true)
theorem live7_of : ∀ t : Fin cfg0.N, 8 ≤ t.val → cfg0.idle 7 (grid0.coords t) = false :=
  (by decide +kernel : ∀ t : Fin grid0.N, 8 ≤ t.val → cfg0.idle 7 (grid0.coords t) = false)
theorem noFlush7_of : ∀ t : Fin cfg0.N, t.val < 8 → (cfg0.win 7).flush t = false :=
  (by decide +kernel : ∀ t : Fin grid0.N, t.val < 8 → (cfg0.win 7).flush t = false)

/-! ## The memrefs the body is called on -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev scM0_0 := Memref.whole cc0_scratch0
abbrev scM0_1 := Memref.whole cc0_scratch1
abbrev scM0_2 := Memref.whole cc0_scratch2
abbrev scM0_3 := Memref.whole cc0_scratch3

/-! ## What the buffers hold -/

/-- The last two coordinates of an entry of a projection buffer, within its slot. -/
def inSlot (y : S8x128x256.Idx) : S1x128x256.Idx := fun
  | ⟨0, _⟩ => (0 : Fin 1)
  | ⟨1, _⟩ => (y 1 : Fin 128)
  | ⟨2, _⟩ => (y 2 : Fin 256)

/-- The last two coordinates of an entry of the product buffer, within its row. -/
def inRow (y : S2x128x1024.Idx) : S1x128x1024.Idx := fun
  | ⟨0, _⟩ => (0 : Fin 1)
  | ⟨1, _⟩ => (y 1 : Fin 128)
  | ⟨2, _⟩ => (y 2 : Fin 1024)

/-- One batch row of an operand block, as the body loads it. -/
def half0 (X : Vec F S2x256x1024 .f32) : Vec F S1x256x1024 .f32 :=
  fun x => X ((Rect.unit (s := S2x256x1024) ![0, 0, 0] S1x256x1024.size inb_S2x256x1024_S1x256x1024_0_0_0).toLoadRect.idx x)
def half1 (X : Vec F S2x256x1024 .f32) : Vec F S1x256x1024 .f32 :=
  fun x => X ((Rect.unit (s := S2x256x1024) ![1, 0, 0] S1x256x1024.size inb_S2x256x1024_S1x256x1024_1_0_0).toLoadRect.idx x)

/-- The slot of a projection buffer computed from an operand block, the weight and the bias. -/
def proj (w : Vec F S1024x64 .f32) (b : Vec F S64x1 .f32) (X : Vec F S2x256x1024 .f32) : Vec F S1x128x256 .f32 :=
  k0_pay5 (fun x => w ((Rect.unit (s := S1024x64) ![0, 0] S1024x64.size inb_S1024x64_S1024x64_0_0).toLoadRect.idx x))
    (fun x => b ((Rect.unit (s := S64x1) ![0, 0] S64x1.size inb_S64x1_S64x1_0_0).toLoadRect.idx x)) (half0 X) (half1 X)

/-- The point that fills the slot an entry lies in. -/
def slotPoint (y : S8x128x256.Idx) : Fin cfg0.N := ⟨(y 0).val, by
  have h : (y 0).val < 8 := (y 0).isLt
  exact lt_of_lt_of_eq (Nat.lt_trans h (by decide)) (show 12 = cfg0.N from N_0.symm)⟩

/-- Projection buffer 0 when every slot is filled. -/
def full9 (c : Dev nD) : Vec F S8x128x256 .f32 := fun y =>
  proj (iblk m c 3 (slotPoint y)) (iblk m c 4 (slotPoint y)) (iblk m c 0 (slotPoint y)) (inSlot y)

/-- Projection buffer 1 when every slot is filled. -/
def full10 (c : Dev nD) : Vec F S8x128x256 .f32 := fun y =>
  proj (iblk m c 3 (slotPoint y)) (iblk m c 4 (slotPoint y)) (iblk m c 1 (slotPoint y)) (inSlot y)

/-- Projection buffer 2 when every slot is filled. -/
def full11 (c : Dev nD) : Vec F S8x128x256 .f32 := fun y =>
  proj (iblk m c 3 (slotPoint y)) (iblk m c 4 (slotPoint y)) (iblk m c 2 (slotPoint y)) (inSlot y)

/-- The point that fills the product buffer. -/
abbrev t8 : Fin cfg0.N := t0_8

/-- The first row of the product buffer. -/
def row0 (c : Dev nD) : Vec F S1x128x1024 .f32 :=
  k0_pay100 (runB.sl.v372 c scM0_0 (Memref.isWhole_whole _) scM0_1 (Memref.isWhole_whole _) (full9 m c) (full10 m c)) (runB.sl.r_52 c scM0_0 (Memref.isWhole_whole _) scM0_1 (Memref.isWhole_whole _) (full9 m c) (full10 m c))
    (runB.sl.r_54 c scM0_0 (Memref.isWhole_whole _) scM0_1 (Memref.isWhole_whole _) (full9 m c) (full10 m c)) (runB.sl.r_55 c scM0_2 (Memref.isWhole_whole _) (full11 m c))
    (runB.sl.r_59 c scM0_0 (Memref.isWhole_whole _) scM0_1 (Memref.isWhole_whole _) scM0_2 (Memref.isWhole_whole _) (full9 m c) (full10 m c) (full11 m c))
    (runB.sl.r_60 c scM0_0 (Memref.isWhole_whole _) scM0_1 (Memref.isWhole_whole _) scM0_2 (Memref.isWhole_whole _) (full9 m c) (full10 m c) (full11 m c)) (runB.sl.r_61 c scM0_0 (Memref.isWhole_whole _) scM0_1 (Memref.isWhole_whole _) (full9 m c) (full10 m c))
    (fun x => iblk m c 5 t8 ((Rect.unit (s := S1024x1024) ![0, 0] S1024x1024.size inb_S1024x1024_S1024x1024_0_0).toLoadRect.idx x))
    (fun x => iblk m c 6 t8 ((Rect.unit (s := S1x1024) ![0, 0] S1x1024.size inb_S1x1024_S1x1024_0_0).toLoadRect.idx x))

/-- The second row. -/
def row1 (c : Dev nD) : Vec F S1x128x1024 .f32 :=
  k0_pay2 (runB.sl.r_62 c (ms0_6 t8) (hs0_6 t8) (iblk m c 6 t8))
    (runB.sl.r_63 c (ms0_5 t8) (hs0_5 t8) scM0_0 (Memref.isWhole_whole _) scM0_1 (Memref.isWhole_whole _) scM0_2 (Memref.isWhole_whole _) (iblk m c 5 t8) (full9 m c) (full10 m c) (full11 m c))

/-- The product buffer from point 8 on. -/
def prod (c : Dev nD) : Vec F S2x128x1024 .f32 := fun y => if (y 0).val = 0 then row0 m c (inRow y) else row1 m c (inRow y)

/-- The block that point `t ≥ 8` stores: the product buffer's row `(t - 8) / 2`, eight times over. -/
def outBlock (c : Dev nD) (t : Fin cfg0.N) : Vec F S1x1024x1024 .f32 :=
  k0_pay3 (if (t.val - 8) / 2 = 0 then row0 m c else row1 m c)

/-! ## What the body's pieces read back -/

/-- A slot written at a point: there the payload, elsewhere what was there. -/
theorem slot_read (M : Memref sig .tc .vmem S8x128x256 .f32) (hM : M.IsWhole) (i : grid0.Coords) (h : k0_cond1 i = 1#1)
    (X : Vec F S8x128x256 .f32) (p : Vec F S1x128x256 .f32) (y : S8x128x256.Idx) :
    M.view.read (Elt F) (M.view.writes (Elt F) (hM.unread X) [⟨Rect.unit (s := S8x128x256) (k0_off1 i) S1x128x256.size (k0_off1_inb i h), p⟩]) y
      = if (y 0).val = (i 0).val then p (inSlot y) else X y := by
  by_cases hy : (y 0).val = (i 0).val
  · rw [if_pos hy]
    exact View.read_writes_cons_unit_of_mem M.view (hM.unread X) (k0_off1_inb i h) p [] y (inSlot y) (k0_off1_eq i)
      (fun | ⟨0, _⟩ => by simpa [inSlot] using hy | ⟨1, _⟩ => by simp [inSlot] | ⟨2, _⟩ => by simp [inSlot])
  · rw [if_neg hy]
    refine (View.read_writes_cons_unit_of_not_mem M.view (hM.unread X) (k0_off1_inb i h) p [] y (k0_off1_eq i) (0 : Fin 3) ?_).trans
      (congrFun (hM.read_unread X) y)
    have e1 : (![(i 0).val, 0, 0] : Fin 3 → ℕ) 0 = (i 0).val := rfl
    have e2 : S1x128x256.size (0 : Fin 3) = 1 := rfl
    rw [e1, e2]; omega

/-- A whole load of a whole memref at known contents. -/
theorem readAt_eq {s : Shape} {e : EltTy} {sp : Space} (M : Memref sig .tc sp s e) (hM : M.IsWhole) (X : Vec F s e) (B : LoadRect s) :
    View.readAt (Elt F) M.view B (hM.unread X) = fun x => X (B.idx x) := funext fun x => hM.readAt_unread X B x

/-! ## The invariant -/

/-- What the scratch buffers hold before point `n`. -/
def Holds (c : Dev nD) (n : ℕ) (X9 X10 X11 : Vec F S8x128x256 .f32) (X12 : Vec F S2x128x1024 .f32) : Prop :=
  (∀ y, (y 0).val < n → X9 y = full9 m c y) ∧ (∀ y, (y 0).val < n → X10 y = full10 m c y)
    ∧ (∀ y, (y 0).val < n → X11 y = full11 m c y) ∧ (8 < n → X12 = prod m c)

/-- The invariant: the scratch buffers at such contents, and the generator register at some state. -/
def PhiS (c : Dev nD) (n : ℕ) (_ : n ≤ cfg0.N) : sProp 𝕄 :=
  iprop((∃ X9, ∃ X10, ∃ X11, ∃ X12, ⌜Holds m c n X9 X10 X11 X12⌝ ∗ owns (c : Thread nD τ) scM0_0 fullShare X9
    ∗ owns (c : Thread nD τ) scM0_1 fullShare X10 ∗ owns (c : Thread nD τ) scM0_2 fullShare X11
    ∗ owns (c : Thread nD τ) scM0_3 fullShare X12) ∗ (∃ r, prngReg c r))

/-- The pipeline's own invariant, the scratch buffers one by one. -/
theorem PhiA0_eq (c : Dev nD) : (Pipeline.ΦA spec0 c : sProp 𝕄) = iprop(iprop((∃ d, owns (c : Thread nD τ) scM0_0 fullShare d)
    ∗ (∃ d, owns (c : Thread nD τ) scM0_1 fullShare d) ∗ (∃ d, owns (c : Thread nD τ) scM0_2 fullShare d)
    ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The proof data: the arrays as the region finds them, each input's buffer at its block, the output's at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlock m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem leaves0_0 (c : Dev nD) (t : Fin cfg0.N) : (dats m 0 c).leavesExact 0 t
    = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t
    = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t
    = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t
    = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t
    = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t
    = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t
    = owns (c : Thread nD τ) (ms0_6 t) fullShare (iblk m c 6 t) := by
  unfold Dat.leavesExact; rw [show cfg0.idle 6 (grid0.coords t) = false from rfl, after0_6]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

/-- The body's call at a point, the memrefs named. -/
abbrev callAt (t : Fin cfg0.N) : Prog (TpuEff nD τ sig (Elt F) Λ₀ .tc) PUnit :=
  cc0__fused_kernel (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _)

/-- One more slot of a projection buffer filled. -/
theorem fill_step (t : Fin cfg0.N) (X full : Vec F S8x128x256 .f32) (p : Vec F S1x128x256 .f32)
    (hX : ∀ y, (y 0).val < t.val → X y = full y) (hp : ∀ y : S8x128x256.Idx, (y 0).val = t.val → full y = p (inSlot y)) :
    ∀ y, (y 0).val < t.val + 1 → (if (y 0).val = (grid0.coords t 0).val then p (inSlot y) else X y) = full y := by
  intro y hy
  rw [coords_val t]
  by_cases h : (y 0).val = t.val
  · rw [if_pos h, hp y h]
  · rw [if_neg h, hX y (by omega)]

theorem slotPoint_of {t : Fin cfg0.N} {y : S8x128x256.Idx} (h : (y 0).val = t.val) : slotPoint y = t := Fin.ext h

set_option maxHeartbeats 4800000 in
/-- The body at a projection point. -/
theorem sound_A (c : Dev nD) (t : Fin cfg0.N) (h8 : t.val < 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_castSucc m c t]
  rw [leaves0_0, leaves0_1, leaves0_2, leaves0_3, leaves0_4, leaves0_5, leaves0_6]
  rw [Dat.leavesExact_idle (dats m 0 c) 7 t (idle7_of t h8) (noFlush7_of t h8)]
  unfold PhiS
  iintro ⟨⟨⟨%X9, %X10, %X11, %X12, %hX, S9, S10, S11, S12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((condA_iff t).mpr h8) (fun h => absurd ((condB_iff t).mp h) (by omega)) (fun h => absurd ((condC_iff t).mp h) (by omega)) (iblk m c 0 t) (iblk m c 1 t) (iblk m c 2 t) (iblk m c 3 t) (iblk m c 4 t) (iblk m c 5 t) (iblk m c 6 t) _ X9 X10 X11 X12).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S9]; · iexact S9
  isplitl [S10]; · iexact S10
  isplitl [S11]; · iexact S11
  isplitl [S12]; · iexact S12
  iintro ⟨H0, H1, H2, H3, H4, H5, H6, H7, S9, S10, S11, S12⟩
  isplitl [S9 S10 S11 S12 Hg]
  · isplitl [S9 S10 S11 S12]
    · iexists (fun y => if (y 0).val = (grid0.coords t 0).val then proj (iblk m c 3 t) (iblk m c 4 t) (iblk m c 0 t) (inSlot y) else X9 y)
      iexists (fun y => if (y 0).val = (grid0.coords t 0).val then proj (iblk m c 3 t) (iblk m c 4 t) (iblk m c 1 t) (inSlot y) else X10 y)
      iexists (fun y => if (y 0).val = (grid0.coords t 0).val then proj (iblk m c 3 t) (iblk m c 4 t) (iblk m c 2 t) (inSlot y) else X11 y)
      iexists X12
      isplitr
      · ipureintro
        exact ⟨fill_step t X9 _ _ hX.1 (fun y hy => by unfold full9; rw [slotPoint_of hy]),
          fill_step t X10 _ _ hX.2.1 (fun y hy => by unfold full10; rw [slotPoint_of hy]),
          fill_step t X11 _ _ hX.2.2.1 (fun y hy => by unfold full11; rw [slotPoint_of hy]), fun h => absurd h (by omega)⟩
      isplitl [S9]
      · unfold owns; iexists _; isplitr
        swap; · iexact S9
        ipureintro; funext y
        refine (slot_read scM0_0 (Memref.isWhole_whole _) (grid0.coords t) ((condA_iff t).mpr h8) X9 _ y).trans ?_
        rw [readAt_eq, readAt_eq, readAt_eq, readAt_eq]; rfl
      isplitl [S10]
      · unfold owns; iexists _; isplitr
        swap; · iexact S10
        ipureintro; funext y
        refine (slot_read scM0_1 (Memref.isWhole_whole _) (grid0.coords t) ((condA_iff t).mpr h8) X10 _ y).trans ?_
        rw [readAt_eq, readAt_eq, readAt_eq, readAt_eq]; rfl
      isplitl [S11]
      · unfold owns; iexists _; isplitr
        swap; · iexact S11
        ipureintro; funext y
        refine (slot_read scM0_2 (Memref.isWhole_whole _) (grid0.coords t) ((condA_iff t).mpr h8) X11 _ y).trans ?_
        unfold runA.sl.r runA.sl.r_1
        rw [readAt_eq, readAt_eq, readAt_eq, readAt_eq]; rfl
      iexact S12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

/-- Every slot is filled once eight points have run. -/
theorem all_full {n : ℕ} (h8 : 8 ≤ n) {X full : Vec F S8x128x256 .f32} (h : ∀ y, (y 0).val < n → X y = full y) : X = full :=
  funext fun y => h y (lt_of_lt_of_le (y 0).isLt h8)

/-- The two rows stored over the product buffer. -/
theorem prod_read (M : Memref sig .tc .vmem S2x128x1024 .f32) (f : M.view.ty.Contents (Elt F)) (p1 p0 : Vec F S1x128x1024 .f32)
    (inb1 : ∀ a : Fin 3, (![1, 0, 0] : Fin 3 → ℕ) a + (![1, 128, 1024] : Fin 3 → ℕ) a ≤ S2x128x1024.size a)
    (inb0 : ∀ a : Fin 3, (![0, 0, 0] : Fin 3 → ℕ) a + S1x128x1024.size a ≤ S2x128x1024.size a) (y : S2x128x1024.Idx) :
    M.view.read (Elt F) (M.view.writes (Elt F) f [⟨Rect.unit (s := S2x128x1024) ![1, 0, 0] ![1, 128, 1024] inb1, p1⟩,
        ⟨Rect.unit (s := S2x128x1024) ![0, 0, 0] S1x128x1024.size inb0, p0⟩]) y
      = if (y 0).val = 0 then p0 (inRow y) else p1 (inRow y) := by
  have hy2 : (y 0).val < 2 := (y 0).isLt
  by_cases hy : (y 0).val = 0
  · rw [if_pos hy]
    refine (View.read_writes_cons_unit_of_not_mem M.view f inb1 p1 _ y rfl (0 : Fin 3) (.inl ?_)).trans
      (View.read_writes_cons_unit_of_mem M.view f inb0 p0 [] y (inRow y) rfl
      (fun | ⟨0, _⟩ => by simpa [inRow] using hy | ⟨1, _⟩ => by simp [inRow] | ⟨2, _⟩ => by simp [inRow]))
    rw [hy]; exact Nat.zero_lt_one
  · rw [if_neg hy]
    exact View.read_writes_cons_unit_of_mem M.view f inb1 p1 _ y (inRow y) rfl
      (fun | ⟨0, _⟩ => by have : (y 0).val = 1 := by omega
                          simpa [inRow] using this | ⟨1, _⟩ => by simp [inRow] | ⟨2, _⟩ => by simp [inRow])

/-- One row of the product buffer loaded. -/
theorem row_load (p0 p1 : Vec F S1x128x1024 .f32) {off : Fin 3 → ℕ} {r : ℕ} (ho : off = ![r, 0, 0])
    (inb : ∀ a : Fin 3, off a + S1x128x1024.size a ≤ S2x128x1024.size a)
    (x : (Rect.unit (s := S2x128x1024) off S1x128x1024.size inb).toLoadRect.shape.Idx) :
    (if (((Rect.unit (s := S2x128x1024) off S1x128x1024.size inb).toLoadRect.idx x) 0).val = 0
        then p0 (inRow ((Rect.unit (s := S2x128x1024) off S1x128x1024.size inb).toLoadRect.idx x))
        else p1 (inRow ((Rect.unit (s := S2x128x1024) off S1x128x1024.size inb).toLoadRect.idx x)))
      = (if r = 0 then p0 else p1) x := by
  subst ho
  have hx0 : (x 0).val < 1 := (x 0).isLt
  have hx : (((Rect.unit (s := S2x128x1024) ![r, 0, 0] S1x128x1024.size inb).toLoadRect.idx x) 0).val = r := by
    show r + 1 * (x 0).val = _
    omega
  have hr : inRow ((Rect.unit (s := S2x128x1024) ![r, 0, 0] S1x128x1024.size inb).toLoadRect.idx x) = x := by
    funext a
    match a with
    | ⟨0, _⟩ => exact Fin.ext (by show 0 = (x 0).val
                                  omega)
    | ⟨1, _⟩ => exact Fin.ext (by show 0 + 1 * (x 1).val = (x 1).val
                                  omega)
    | ⟨2, _⟩ => exact Fin.ext (by show 0 + 1 * (x 2).val = (x 2).val
                                  omega)
  rw [hx, hr]
  split <;> rfl

/-- The whole output block stored. -/
theorem out_read (M : Memref sig .tc .vmem S1x1024x1024 .f32) (f : M.view.ty.Contents (Elt F)) (p : Vec F S1x1024x1024 .f32) (sz : Fin 3 → ℕ)
    (hsz : sz = S1x1024x1024.size) (inb : ∀ a : Fin 3, (![0, 0, 0] : Fin 3 → ℕ) a + sz a ≤ S1x1024x1024.size a) (p' : (Rect.unit (s := S1x1024x1024) ![0, 0, 0] sz inb).shape.Idx → Elt F .f32)
    (hp : HEq p' p) :
    M.view.read (Elt F) (M.view.writes (Elt F) f [⟨Rect.unit (s := S1x1024x1024) ![0, 0, 0] sz inb, p'⟩]) = p := by
  subst hsz; obtain rfl := eq_of_heq hp
  funext y
  exact View.read_writes_cons_unit_of_mem M.view f inb p' [] y y rfl (fun | ⟨0, _⟩ => by simp | ⟨1, _⟩ => by simp | ⟨2, _⟩ => by simp)

set_option maxHeartbeats 4800000 in
/-- The body at a later output point. -/
theorem sound_C (c : Dev nD) (t : Fin cfg0.N) (h9 : 8 < t.val) :
    bodyPre m c t ⊢ wp frame (wpE (defs₀ (F := F)) Variants.none c none) Set.univ (bodyAt0 t) (fun _ => bodyPost m c t) := by
  have h8 : 8 ≤ t.val := h9.le
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_castSucc m c t]
  rw [leaves0_0, leaves0_1, leaves0_2, leaves0_3, leaves0_4, leaves0_5, leaves0_6]
  rw [show (dats m 0 c).leavesExact 7 t = owns (c : Thread nD τ) (ms0_7 t) fullShare (outBlock m c t) from by
    unfold Dat.leavesExact; rw [live7_of t h8, after0_7]]
  unfold PhiS
  iintro ⟨⟨⟨%X9, %X10, %X11, %X12, %hX, S9, S10, S11, S12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl := hX.2.2.2 h9
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => absurd ((condA_iff t).mp h) (by omega)) (fun h => absurd ((condB_iff t).mp h) (by omega)) ((condC_iff t).mpr h8) (iblk m c 0 t) (iblk m c 1 t) (iblk m c 2 t) (iblk m c 3 t) (iblk m c 4 t) (iblk m c 5 t) (iblk m c 6 t) _ X9 X10 X11 (prod m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S9]; · iexact S9
  isplitl [S10]; · iexact S10
  isplitl [S11]; · iexact S11
  isplitl [S12]; · iexact S12
  iintro ⟨H0, H1, H2, H3, H4, H5, H6, H7, S9, S10, S11, S12⟩
  isplitl [S9 S10 S11 S12 Hg]
  · isplitl [S9 S10 S11 S12]
    · iexists X9; iexists X10; iexists X11; iexists (prod m c)
      isplitr
      · ipureintro
        exact ⟨fun y _ => hX.1 y (lt_of_lt_of_le (y 0).isLt h8), fun y _ => hX.2.1 y (lt_of_lt_of_le (y 0).isLt h8), fun y _ => hX.2.2.1 y (lt_of_lt_of_le (y 0).isLt h8), fun _ => rfl⟩
      isplitl [S9]; · iexact S9
      isplitl [S10]; · iexact S10
      isplitl [S11]; · iexact S11
      iexact S12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  refine out_read (ms0_7 t) _ _ _ rfl _ _ (heq_of_eq ?_)
  unfold outBlock
  refine congrArg k0_pay3 ?_
  rw [readAt_eq]
  funext x
  unfold prod
  exact row_load _ _ (off2_eq t h8) _ x

set_option maxHeartbeats 4800000 in
/-- The body at the aggregation point. -/
theorem sound_B (c : Dev nD) (t : Fin cfg0.N) (ht : t.val = 8) :
    bodyPre m c t ⊢ wp frame (wpE (defs₀ (F := F)) Variants.none c none) Set.univ (bodyAt0 t) (fun _ => bodyPost m c t) := by
  obtain rfl : t = t8 := Fin.ext ht
  generalize htt : t8 = t at *
  have h8 : 8 ≤ t.val := ht.ge
  haveI := offZero_of t ht
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_castSucc m c t]
  rw [leaves0_0, leaves0_1, leaves0_2, leaves0_3, leaves0_4, leaves0_5, leaves0_6]
  rw [show (dats m 0 c).leavesExact 7 t = owns (c : Thread nD τ) (ms0_7 t) fullShare (outBlock m c t) from by
    unfold Dat.leavesExact; rw [live7_of t h8, after0_7]]
  unfold PhiS
  iintro ⟨⟨⟨%X9, %X10, %X11, %X12, %hX, S9, S10, S11, S12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl := all_full h8 hX.1
  obtain rfl := all_full h8 hX.2.1
  obtain rfl := all_full h8 hX.2.2.1
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => absurd ((condA_iff t).mp h) (by omega)) ((condB_iff t).mpr ht) ((condC_iff t).mpr h8) (iblk m c 0 t) (iblk m c 1 t) (iblk m c 2 t) (iblk m c 3 t) (iblk m c 4 t) (iblk m c 5 t) (iblk m c 6 t) _ (full9 m c) (full10 m c) (full11 m c) X12).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S9]; · iexact S9
  isplitl [S10]; · iexact S10
  isplitl [S11]; · iexact S11
  isplitl [S12]; · iexact S12
  iintro ⟨H0, H1, H2, H3, H4, H5, H6, H7, S9, S10, S11, S12⟩
  isplitl [S9 S10 S11 S12 Hg]
  · isplitl [S9 S10 S11 S12]
    · iexists (full9 m c); iexists (full10 m c); iexists (full11 m c); iexists (prod m c)
      isplitr
      · ipureintro
        exact ⟨fun y _ => rfl, fun y _ => rfl, fun y _ => rfl, fun _ => rfl⟩
      isplitl [S9]; · iexact S9
      isplitl [S10]; · iexact S10
      isplitl [S11]; · iexact S11
      unfold owns; iexists _; isplitr
      swap; · iexact S12
      ipureintro; funext y
      refine (prod_read scM0_3 _ _ _ _ _ y).trans ?_
      rw [readAt_eq, readAt_eq]; subst htt; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  refine out_read (ms0_7 t) _ _ _ rfl _ _ (heq_of_eq ?_)
  unfold outBlock
  refine congrArg k0_pay3 ?_
  unfold runB.sl.v28
  funext x
  refine (prod_read (F := F) scM0_3 _ _ _ _ _ _).trans ?_
  rw [readAt_eq, readAt_eq]; subst htt
  exact row_load (row0 m c) (row1 m c) (off2_eq t8 h8) _ x

/-- The body at any point. -/
theorem sound_body (c : Dev nD) (t : Fin cfg0.N) :
    bodyPre m c t ⊢ wp frame (wpE (defs₀ (F := F)) Variants.none c none) Set.univ (bodyAt0 t) (fun _ => bodyPost m c t) := by
  rcases Nat.lt_trichotomy t.val 8 with h | h | h
  · exact sound_A m c t h
  · exact sound_B m c t h
  · exact sound_C m c t h

/-- The body table's row at point `t`'s slots is the body's call there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

theorem hin (c : Dev nD) : (Pipeline.ΦA spec0 c : sProp 𝕄) ⊢ (dats m 0 c).Φ 0 := by
  rw [show (dats m 0 c).Φ 0 = PhiS m c 0 (Nat.zero_le _) from rfl, PhiA0_eq]
  unfold PhiS
  iintro ⟨⟨⟨%X9, S9⟩, ⟨%X10, S10⟩, ⟨%X11, S11⟩, ⟨%X12, S12⟩⟩, Hg⟩
  isplitl [S9 S10 S11 S12]
  · iexists X9; iexists X10; iexists X11; iexists X12
    isplitr
    · ipureintro
      exact ⟨fun y h => absurd h (Nat.not_lt_zero _), fun y h => absurd h (Nat.not_lt_zero _), fun y h => absurd h (Nat.not_lt_zero _), fun h => absurd h (by omega)⟩
    isplitl [S9]; · iexact S9
    isplitl [S10]; · iexact S10
    isplitl [S11]; · iexact S11
    iexact S12
  iexact Hg

theorem hout (c : Dev nD) : (dats m 0 c).Φ (Fin.last cfg0.N) ⊢ (Pipeline.ΦA spec0 c : sProp 𝕄) := by
  rw [show (dats m 0 c).Φ (Fin.last cfg0.N) = PhiS m c cfg0.N le_rfl from rfl, PhiA0_eq]
  unfold PhiS
  iintro ⟨⟨%X9, %X10, %X11, %X12, %hX, S9, S10, S11, S12⟩, Hg⟩
  isplitl [S9 S10 S11 S12]
  · isplitl [S9]; · iexists X9; iexact S9
    isplitl [S10]; · iexists X10; iexact S10
    isplitl [S11]; · iexists X11; iexact S11
    iexists X12; iexact S12
  iexact Hg

set_option backward.isDefEq.respectTransparency.types false in
/-- Every execution terminates with the pipeline's arrays at what the proof data compute, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiet m ρ)

/-- The frame: the arguments end unchanged and every counter ends at zero. -/
theorem frame_quiet : θ_run defs (onTc (τ := τ) (main (F := F))) ⟨m, fun _ => 0, ρ⟩ (fun r => (∀ c : Dev nD,

      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_quiet m ρ))

end Cert.KernelIdeal.Body

end
-- ==== Proof.KernelIdeal.Names.lean ====
/-
  The kernel's named values, in terms of the rounds.
-/
module

public import proofs.«01_k».proof.Proof.KernelIdeal.Rounds
public import proofs.«01_k».proof.Proof.KernelIdeal.Body

@[expose] public section

set_option maxRecDepth 16384

noncomputable section

namespace Cert.KernelIdeal.Value

open Cert.KernelIdeal Cert.KernelIdeal.Gen Cert.KernelIdeal.Body
open Idealize.ShloMosaic Cert.Math

variable (c : Dev nD) (M9 M10 : Memref sig .tc .vmem S8x128x256 .f32) (h9 : M9.IsWhole) (h10 : M10.IsWhole) (x9 x10 : Vec Ideal S8x128x256 .f32)

/-- The rows of a slot of a projection buffer. -/
def slotRead (M : Memref sig .tc .vmem S8x128x256 .f32) (hM : M.IsWhole) (x : Vec Ideal S8x128x256 .f32) (k : ℕ)
    (hk : ∀ a, (![k, 0, 0] : Fin 3 → ℕ) a + S1x128x256.size a ≤ S8x128x256.size a) : Vec Ideal S1x128x256 .f32 :=
  View.readAt (Elt Ideal) M.view (Rect.unit (s := S8x128x256) ![k, 0, 0] S1x128x256.size hk).toLoadRect (hM.unread x)

/-- The eight slots side by side. -/
def wide (M : Memref sig .tc .vmem S8x128x256 .f32) (hM : M.IsWhole) (x : Vec Ideal S8x128x256 .f32) : FVec Ideal S128x2048 .f32 :=
  k0_pay7 (slotRead M hM x 0 inb_S8x128x256_S1x128x256_0_0_0) (slotRead M hM x 1 inb_S8x128x256_S1x128x256_1_0_0)
    (slotRead M hM x 2 inb_S8x128x256_S1x128x256_2_0_0) (slotRead M hM x 3 inb_S8x128x256_S1x128x256_3_0_0)
    (slotRead M hM x 4 inb_S8x128x256_S1x128x256_4_0_0) (slotRead M hM x 5 inb_S8x128x256_S1x128x256_5_0_0)
    (slotRead M hM x 6 inb_S8x128x256_S1x128x256_6_0_0) (slotRead M hM x 7 inb_S8x128x256_S1x128x256_7_0_0)

/-- The correlation row the point computes. -/
def row : FVec Ideal S1x2048 .f32 := corrRow (wide M9 h9 x9) (wide M10 h10 x10)

theorem first_of (a b : FVec Ideal S128x2048 .f32) (v112 v114 : FVec Ideal S8x2048 .f32)
    (ha : v112 = eight (highPart a) (lowPart a) (highPart b) (lowPart b)) (hb : v114 = dynamicRotate 1 2044#32 none v112 rotates_S8x2048_d1) :
    k0_pay22 v112 (iota .tc S8x2048 32 [0] iota_S8x2048_d0_w32) v114 k0_pay21 0#32 = corrRow a b := by
  subst hb ha; rfl

theorem first_eq (v112 v114 : FVec Ideal S8x2048 .f32) (v113 v116 : IVec S8x2048 32) (z : BitVec 32) (x : FVec Ideal S1x2048 .f32)
    (h : k0_pay22 v112 v113 v114 v116 z = x) :
    k0_pay23 v112 v113 v114 v116 z = rowMax x
      ∧ extractAt ![0, 0, 0] (k0_pay24 v112 v113 v114 v116 z) inpos_S1x1x1_p0_0_0 = leastKey (keyOf x)
      ∧ k0_pay25 v112 v113 v114 v116 z = nextRow x
      ∧ k0_pay26 v112 v113 v114 v116 z = rowMax (nextRow x)
      ∧ k0_pay27 v112 v113 v114 v116 z = keyOf (nextRow x) := by
  subst h
  exact ⟨rfl, rfl, rfl, rfl, rfl⟩

theorem eight_eq : runB.sl.r_12 c M9 h9 M10 h10 x9 x10
    = eight (highPart (wide M9 h9 x9)) (lowPart (wide M9 h9 x9)) (highPart (wide M10 h10 x10)) (lowPart (wide M10 h10 x10)) := by
  unfold runB.sl.r_12 runB.sl.r_5 runB.sl.r_6 runB.sl.r_7 runB.sl.r_8 runB.sl.r_9 runB.sl.r_10 runB.sl.r_11 runB.sl.cst_50
  exact pay19_eq (wide M9 h9 x9) (runB.sl.r_1 c M10 h10 x10) (runB.sl.r_2 c M10 h10 x10) (runB.sl.r_3 c M10 h10 x10) (runB.sl.r_4 c M10 h10 x10) _ _ _ _

theorem turned_eq : runB.sl.r_13 c M9 h9 M10 h10 x9 x10
    = dynamicRotate 1 2044#32 none (runB.sl.r_12 c M9 h9 M10 h10 x9 x10) rotates_S8x2048_d1 := rfl

theorem row_eq : k0_pay22 (runB.sl.r_12 c M9 h9 M10 h10 x9 x10) runB.sl.v113 (runB.sl.r_13 c M9 h9 M10 h10 x9 x10) k0_pay21 0#32
    = row M9 M10 h9 h10 x9 x10 :=
  first_of _ _ _ _ (eight_eq c M9 M10 h9 h10 x9 x10) (turned_eq c M9 M10 h9 h10 x9 x10)

/-- What three rounds in a row compute from a row and its keys. -/
structure Three (least0 : IVec S1x1x2048 32 → IVec S1x1x1 32) (max1 : IVec S1x2048 32 → FVec Ideal S1x2048 .f32 → IVec S1x1x2048 32 → Ideal .f32)
    (least1 : IVec S1x2048 32 → FVec Ideal S1x2048 .f32 → IVec S1x1x2048 32 → IVec S1x1x1 32)
    (max2 : IVec S1x2048 32 → FVec Ideal S1x2048 .f32 → IVec S1x1x2048 32 → Ideal .f32)
    (least2 : IVec S1x2048 32 → FVec Ideal S1x2048 .f32 → IVec S1x1x2048 32 → IVec S1x1x1 32)
    (row3 : IVec S1x2048 32 → FVec Ideal S1x2048 .f32 → IVec S1x1x2048 32 → FVec Ideal S1x2048 .f32)
    (max3 : IVec S1x2048 32 → FVec Ideal S1x2048 .f32 → IVec S1x1x2048 32 → Ideal .f32)
    (key3 : IVec S1x2048 32 → FVec Ideal S1x2048 .f32 → IVec S1x1x2048 32 → IVec S1x1x2048 32) : Prop where
  place0 : ∀ x, extractAt ![0, 0, 0] (least0 (keyOf x)) inpos_S1x1x1_p0_0_0 = leastKey (keyOf x)
  top1 : ∀ x, max1 lags x (keyOf x) = rowMax (nextRow x)
  place1 : ∀ x, extractAt ![0, 0, 0] (least1 lags x (keyOf x)) inpos_S1x1x1_p0_0_0 = leastKey (keyOf (nextRow x))
  top2 : ∀ x, max2 lags x (keyOf x) = rowMax (nextRow (nextRow x))
  place2 : ∀ x, extractAt ![0, 0, 0] (least2 lags x (keyOf x)) inpos_S1x1x1_p0_0_0 = leastKey (keyOf (nextRow (nextRow x)))
  rows : ∀ x, row3 lags x (keyOf x) = nextRow (nextRow (nextRow x))
  top3 : ∀ x, max3 lags x (keyOf x) = rowMax (nextRow (nextRow (nextRow x)))
  keys : ∀ x, key3 lags x (keyOf x) = keyOf (nextRow (nextRow (nextRow x)))

theorem three_a : Three k0_pay28 k0_pay30 k0_pay31 k0_pay33 k0_pay34 k0_pay35 k0_pay36 k0_pay37 :=
  ⟨fun _ => rfl, fun _ => rfl, fun _ => rfl, fun _ => rfl, fun _ => rfl, fun _ => rfl, fun _ => rfl, fun _ => rfl⟩
theorem three_b : Three k0_pay38 k0_pay40 k0_pay41 k0_pay43 k0_pay44 k0_pay45 k0_pay46 k0_pay47 := three_a
theorem three_c : Three k0_pay48 k0_pay50 k0_pay51 k0_pay53 k0_pay54 k0_pay55 k0_pay56 k0_pay57 := three_a
theorem three_d : Three k0_pay58 k0_pay60 k0_pay61 k0_pay63 k0_pay64 k0_pay65 k0_pay66 k0_pay67 := three_a
theorem three_e : Three k0_pay68 k0_pay70 k0_pay71 k0_pay43 k0_pay44 k0_pay45 k0_pay46 k0_pay47 := three_a

/-! The values of the first round. -/
theorem max_0 : runB.sl.r_14 c M9 h9 M10 h10 x9 x10 = rowMax (rowAt (row M9 M10 h9 h10 x9 x10) 0) := (first_eq _ _ _ _ _ _ (row_eq c M9 M10 h9 h10 x9 x10)).1
theorem place_0 : runB.sl.v148 c M9 h9 M10 h10 x9 x10 = leastKey (keyOf (rowAt (row M9 M10 h9 h10 x9 x10) 0)) := (first_eq _ _ _ _ _ _ (row_eq c M9 M10 h9 h10 x9 x10)).2.1
theorem row_1 : runB.sl.r_15 c M9 h9 M10 h10 x9 x10 = (rowAt (row M9 M10 h9 h10 x9 x10) 1) := (first_eq _ _ _ _ _ _ (row_eq c M9 M10 h9 h10 x9 x10)).2.2.1
theorem max_1 : runB.sl.r_16 c M9 h9 M10 h10 x9 x10 = rowMax (rowAt (row M9 M10 h9 h10 x9 x10) 1) := (first_eq _ _ _ _ _ _ (row_eq c M9 M10 h9 h10 x9 x10)).2.2.2.1
theorem key_1 : runB.sl.r_17 c M9 h9 M10 h10 x9 x10 = keyOf (rowAt (row M9 M10 h9 h10 x9 x10) 1) := (first_eq _ _ _ _ _ _ (row_eq c M9 M10 h9 h10 x9 x10)).2.2.2.2

/-! The values of the rounds after it, three at a time. -/
theorem place_1 : runB.sl.v164 c M9 h9 M10 h10 x9 x10 = leastKey (keyOf (rowAt (row M9 M10 h9 h10 x9 x10) 1)) := by
  unfold runB.sl.v164; rw [key_1 c M9 M10 h9 h10 x9 x10]; exact three_a.place0 _
theorem max_2 : runB.sl.r_18 c M9 h9 M10 h10 x9 x10 = rowMax (rowAt (row M9 M10 h9 h10 x9 x10) 2) := by
  unfold runB.sl.r_18; rw [row_1 c M9 M10 h9 h10 x9 x10, key_1 c M9 M10 h9 h10 x9 x10]; exact three_a.top1 _
theorem place_2 : runB.sl.v180 c M9 h9 M10 h10 x9 x10 = leastKey (keyOf (rowAt (row M9 M10 h9 h10 x9 x10) 2)) := by
  unfold runB.sl.v180; rw [row_1 c M9 M10 h9 h10 x9 x10, key_1 c M9 M10 h9 h10 x9 x10]; exact three_a.place1 _
theorem max_3 : runB.sl.r_19 c M9 h9 M10 h10 x9 x10 = rowMax (rowAt (row M9 M10 h9 h10 x9 x10) 3) := by
  unfold runB.sl.r_19; rw [row_1 c M9 M10 h9 h10 x9 x10, key_1 c M9 M10 h9 h10 x9 x10]; exact three_a.top2 _
theorem place_3 : runB.sl.v196 c M9 h9 M10 h10 x9 x10 = leastKey (keyOf (rowAt (row M9 M10 h9 h10 x9 x10) 3)) := by
  unfold runB.sl.v196; rw [row_1 c M9 M10 h9 h10 x9 x10, key_1 c M9 M10 h9 h10 x9 x10]; exact three_a.place2 _
theorem row_4 : runB.sl.r_20 c M9 h9 M10 h10 x9 x10 = (rowAt (row M9 M10 h9 h10 x9 x10) 4) := by
  unfold runB.sl.r_20; rw [row_1 c M9 M10 h9 h10 x9 x10, key_1 c M9 M10 h9 h10 x9 x10]; exact three_a.rows _
theorem max_4 : runB.sl.r_21 c M9 h9 M10 h10 x9 x10 = rowMax (rowAt (row M9 M10 h9 h10 x9 x10) 4) := by
  unfold runB.sl.r_21; rw [row_1 c M9 M10 h9 h10 x9 x10, key_1 c M9 M10 h9 h10 x9 x10]; exact three_a.top3 _
theorem key_4 : runB.sl.r_22 c M9 h9 M10 h10 x9 x10 = keyOf (rowAt (row M9 M10 h9 h10 x9 x10) 4) := by
  unfold runB.sl.r_22; rw [row_1 c M9 M10 h9 h10 x9 x10, key_1 c M9 M10 h9 h10 x9 x10]; exact three_a.keys _
theorem place_4 : runB.sl.v212 c M9 h9 M10 h10 x9 x10 = leastKey (keyOf (rowAt (row M9 M10 h9 h10 x9 x10) 4)) := by
  unfold runB.sl.v212; rw [key_4 c M9 M10 h9 h10 x9 x10]; exact three_b.place0 _
theorem max_5 : runB.sl.r_23 c M9 h9 M10 h10 x9 x10 = rowMax (rowAt (row M9 M10 h9 h10 x9 x10) 5) := by
  unfold runB.sl.r_23; rw [row_4 c M9 M10 h9 h10 x9 x10, key_4 c M9 M10 h9 h10 x9 x10]; exact three_b.top1 _
theorem place_5 : runB.sl.v228 c M9 h9 M10 h10 x9 x10 = leastKey (keyOf (rowAt (row M9 M10 h9 h10 x9 x10) 5)) := by
  unfold runB.sl.v228; rw [row_4 c M9 M10 h9 h10 x9 x10, key_4 c M9 M10 h9 h10 x9 x10]; exact three_b.place1 _
theorem max_6 : runB.sl.r_24 c M9 h9 M10 h10 x9 x10 = rowMax (rowAt (row M9 M10 h9 h10 x9 x10) 6) := by
  unfold runB.sl.r_24; rw [row_4 c M9 M10 h9 h10 x9 x10, key_4 c M9 M10 h9 h10 x9 x10]; exact three_b.top2 _
theorem place_6 : runB.sl.v244 c M9 h9 M10 h10 x9 x10 = leastKey (keyOf (rowAt (row M9 M10 h9 h10 x9 x10) 6)) := by
  unfold runB.sl.v244; rw [row_4 c M9 M10 h9 h10 x9 x10, key_4 c M9 M10 h9 h10 x9 x10]; exact three_b.place2 _
theorem row_7 : runB.sl.r_25 c M9 h9 M10 h10 x9 x10 = (rowAt (row M9 M10 h9 h10 x9 x10) 7) := by
  unfold runB.sl.r_25; rw [row_4 c M9 M10 h9 h10 x9 x10, key_4 c M9 M10 h9 h10 x9 x10]; exact three_b.rows _
theorem max_7 : runB.sl.r_26 c M9 h9 M10 h10 x9 x10 = rowMax (rowAt (row M9 M10 h9 h10 x9 x10) 7) := by
  unfold runB.sl.r_26; rw [row_4 c M9 M10 h9 h10 x9 x10, key_4 c M9 M10 h9 h10 x9 x10]; exact three_b.top3 _
theorem key_7 : runB.sl.r_27 c M9 h9 M10 h10 x9 x10 = keyOf (rowAt (row M9 M10 h9 h10 x9 x10) 7) := by
  unfold runB.sl.r_27; rw [row_4 c M9 M10 h9 h10 x9 x10, key_4 c M9 M10 h9 h10 x9 x10]; exact three_b.keys _
theorem place_7 : runB.sl.v260 c M9 h9 M10 h10 x9 x10 = leastKey (keyOf (rowAt (row M9 M10 h9 h10 x9 x10) 7)) := by
  unfold runB.sl.v260; rw [key_7 c M9 M10 h9 h10 x9 x10]; exact three_c.place0 _
theorem max_8 : runB.sl.r_28 c M9 h9 M10 h10 x9 x10 = rowMax (rowAt (row M9 M10 h9 h10 x9 x10) 8) := by
  unfold runB.sl.r_28; rw [row_7 c M9 M10 h9 h10 x9 x10, key_7 c M9 M10 h9 h10 x9 x10]; exact three_c.top1 _
theorem place_8 : runB.sl.v276 c M9 h9 M10 h10 x9 x10 = leastKey (keyOf (rowAt (row M9 M10 h9 h10 x9 x10) 8)) := by
  unfold runB.sl.v276; rw [row_7 c M9 M10 h9 h10 x9 x10, key_7 c M9 M10 h9 h10 x9 x10]; exact three_c.place1 _
theorem max_9 : runB.sl.r_29 c M9 h9 M10 h10 x9 x10 = rowMax (rowAt (row M9 M10 h9 h10 x9 x10) 9) := by
  unfold runB.sl.r_29; rw [row_7 c M9 M10 h9 h10 x9 x10, key_7 c M9 M10 h9 h10 x9 x10]; exact three_c.top2 _
theorem place_9 : runB.sl.v292 c M9 h9 M10 h10 x9 x10 = leastKey (keyOf (rowAt (row M9 M10 h9 h10 x9 x10) 9)) := by
  unfold runB.sl.v292; rw [row_7 c M9 M10 h9 h10 x9 x10, key_7 c M9 M10 h9 h10 x9 x10]; exact three_c.place2 _
theorem row_10 : runB.sl.r_30 c M9 h9 M10 h10 x9 x10 = (rowAt (row M9 M10 h9 h10 x9 x10) 10) := by
  unfold runB.sl.r_30; rw [row_7 c M9 M10 h9 h10 x9 x10, key_7 c M9 M10 h9 h10 x9 x10]; exact three_c.rows _
theorem max_10 : runB.sl.r_31 c M9 h9 M10 h10 x9 x10 = rowMax (rowAt (row M9 M10 h9 h10 x9 x10) 10) := by
  unfold runB.sl.r_31; rw [row_7 c M9 M10 h9 h10 x9 x10, key_7 c M9 M10 h9 h10 x9 x10]; exact three_c.top3 _
theorem key_10 : runB.sl.r_32 c M9 h9 M10 h10 x9 x10 = keyOf (rowAt (row M9 M10 h9 h10 x9 x10) 10) := by
  unfold runB.sl.r_32; rw [row_7 c M9 M10 h9 h10 x9 x10, key_7 c M9 M10 h9 h10 x9 x10]; exact three_c.keys _
theorem place_10 : runB.sl.v308 c M9 h9 M10 h10 x9 x10 = leastKey (keyOf (rowAt (row M9 M10 h9 h10 x9 x10) 10)) := by
  unfold runB.sl.v308; rw [key_10 c M9 M10 h9 h10 x9 x10]; exact three_d.place0 _
theorem max_11 : runB.sl.r_33 c M9 h9 M10 h10 x9 x10 = rowMax (rowAt (row M9 M10 h9 h10 x9 x10) 11) := by
  unfold runB.sl.r_33; rw [row_10 c M9 M10 h9 h10 x9 x10, key_10 c M9 M10 h9 h10 x9 x10]; exact three_d.top1 _
theorem place_11 : runB.sl.v324 c M9 h9 M10 h10 x9 x10 = leastKey (keyOf (rowAt (row M9 M10 h9 h10 x9 x10) 11)) := by
  unfold runB.sl.v324; rw [row_10 c M9 M10 h9 h10 x9 x10, key_10 c M9 M10 h9 h10 x9 x10]; exact three_d.place1 _
theorem max_12 : runB.sl.r_34 c M9 h9 M10 h10 x9 x10 = rowMax (rowAt (row M9 M10 h9 h10 x9 x10) 12) := by
  unfold runB.sl.r_34; rw [row_10 c M9 M10 h9 h10 x9 x10, key_10 c M9 M10 h9 h10 x9 x10]; exact three_d.top2 _
theorem place_12 : runB.sl.v340 c M9 h9 M10 h10 x9 x10 = leastKey (keyOf (rowAt (row M9 M10 h9 h10 x9 x10) 12)) := by
  unfold runB.sl.v340; rw [row_10 c M9 M10 h9 h10 x9 x10, key_10 c M9 M10 h9 h10 x9 x10]; exact three_d.place2 _
theorem row_13 : runB.sl.r_35 c M9 h9 M10 h10 x9 x10 = (rowAt (row M9 M10 h9 h10 x9 x10) 13) := by
  unfold runB.sl.r_35; rw [row_10 c M9 M10 h9 h10 x9 x10, key_10 c M9 M10 h9 h10 x9 x10]; exact three_d.rows _
theorem max_13 : runB.sl.r_36 c M9 h9 M10 h10 x9 x10 = rowMax (rowAt (row M9 M10 h9 h10 x9 x10) 13) := by
  unfold runB.sl.r_36; rw [row_10 c M9 M10 h9 h10 x9 x10, key_10 c M9 M10 h9 h10 x9 x10]; exact three_d.top3 _
theorem key_13 : runB.sl.r_37 c M9 h9 M10 h10 x9 x10 = keyOf (rowAt (row M9 M10 h9 h10 x9 x10) 13) := by
  unfold runB.sl.r_37; rw [row_10 c M9 M10 h9 h10 x9 x10, key_10 c M9 M10 h9 h10 x9 x10]; exact three_d.keys _
theorem place_13 : runB.sl.v356 c M9 h9 M10 h10 x9 x10 = leastKey (keyOf (rowAt (row M9 M10 h9 h10 x9 x10) 13)) := by
  unfold runB.sl.v356; rw [key_13 c M9 M10 h9 h10 x9 x10]; exact three_e.place0 _
theorem max_14 : k0_pay70 runB.sl.v136 (runB.sl.r_35 c M9 h9 M10 h10 x9 x10) (runB.sl.r_37 c M9 h9 M10 h10 x9 x10) = rowMax (rowAt (row M9 M10 h9 h10 x9 x10) 14) := by
  rw [row_13 c M9 M10 h9 h10 x9 x10, key_13 c M9 M10 h9 h10 x9 x10]; exact three_e.top1 _
theorem place_14 : runB.sl.v372 c M9 h9 M10 h10 x9 x10 = leastKey (keyOf (rowAt (row M9 M10 h9 h10 x9 x10) 14)) := by
  unfold runB.sl.v372; rw [row_13 c M9 M10 h9 h10 x9 x10, key_13 c M9 M10 h9 h10 x9 x10]; exact three_e.place1 _

/-- The exponential of a round's maximum, below the first. -/
def expOf (x : FVec Ideal S1x2048 .f32) (n : ℕ) : Ideal .f32 := Scalar.exp (Scalar.subf (rowMax (rowAt x n)) (rowMax (rowAt x 0)))
/-- The sum of the first exponentials. -/
def expSum (x : FVec Ideal S1x2048 .f32) : ℕ → Ideal .f32
  | 0 => expOf x 0
  | n + 1 => Scalar.addf (expSum x n) (expOf x (n + 1))
/-- The scale of the weights. -/
def scale (x : FVec Ideal S1x2048 .f32) : Ideal .f32 := Scalar.divf (Scalar.ofBits .f32 0x3F800000#32) (expSum x 14)
/-- The weighted sum of the first turned copies. -/
def accOf (x : FVec Ideal S1x2048 .f32) (v : FVec Ideal S128x2048 .f32) : ℕ → FVec Ideal S128x2048 .f32
  | 0 => broadcast S128x2048 (Scalar.ofBits .f32 0x00000000#32)
  | n + 1 => addf (accOf x v n) (mulf (broadcast S128x2048 (Scalar.mulf (expOf x n) (scale x)))
      (dynamicRotate 1 (leastKey (keyOf (rowAt x n))) none v rotates_S128x2048_d1))

theorem exp_0 : runB.sl.r_38 c M9 h9 M10 h10 x9 x10 = expOf (row M9 M10 h9 h10 x9 x10) 0 := by
  unfold runB.sl.r_38; rw [max_0 c M9 M10 h9 h10 x9 x10]; rfl
theorem exp_1 : runB.sl.r_39 c M9 h9 M10 h10 x9 x10 = expOf (row M9 M10 h9 h10 x9 x10) 1 := by
  unfold runB.sl.r_39; rw [max_0 c M9 M10 h9 h10 x9 x10, max_1 c M9 M10 h9 h10 x9 x10]; rfl
theorem exp_2 : runB.sl.r_40 c M9 h9 M10 h10 x9 x10 = expOf (row M9 M10 h9 h10 x9 x10) 2 := by
  unfold runB.sl.r_40; rw [max_0 c M9 M10 h9 h10 x9 x10, max_2 c M9 M10 h9 h10 x9 x10]; rfl
theorem exp_3 : runB.sl.r_41 c M9 h9 M10 h10 x9 x10 = expOf (row M9 M10 h9 h10 x9 x10) 3 := by
  unfold runB.sl.r_41; rw [max_0 c M9 M10 h9 h10 x9 x10, max_3 c M9 M10 h9 h10 x9 x10]; rfl
theorem exp_4 : runB.sl.r_42 c M9 h9 M10 h10 x9 x10 = expOf (row M9 M10 h9 h10 x9 x10) 4 := by
  unfold runB.sl.r_42; rw [max_0 c M9 M10 h9 h10 x9 x10, max_4 c M9 M10 h9 h10 x9 x10]; rfl
theorem exp_5 : runB.sl.r_43 c M9 h9 M10 h10 x9 x10 = expOf (row M9 M10 h9 h10 x9 x10) 5 := by
  unfold runB.sl.r_43; rw [max_0 c M9 M10 h9 h10 x9 x10, max_5 c M9 M10 h9 h10 x9 x10]; rfl
theorem exp_6 : runB.sl.r_44 c M9 h9 M10 h10 x9 x10 = expOf (row M9 M10 h9 h10 x9 x10) 6 := by
  unfold runB.sl.r_44; rw [max_0 c M9 M10 h9 h10 x9 x10, max_6 c M9 M10 h9 h10 x9 x10]; rfl
theorem exp_7 : runB.sl.r_45 c M9 h9 M10 h10 x9 x10 = expOf (row M9 M10 h9 h10 x9 x10) 7 := by
  unfold runB.sl.r_45; rw [max_0 c M9 M10 h9 h10 x9 x10, max_7 c M9 M10 h9 h10 x9 x10]; rfl
theorem exp_8 : runB.sl.r_46 c M9 h9 M10 h10 x9 x10 = expOf (row M9 M10 h9 h10 x9 x10) 8 := by
  unfold runB.sl.r_46; rw [max_0 c M9 M10 h9 h10 x9 x10, max_8 c M9 M10 h9 h10 x9 x10]; rfl
theorem exp_9 : runB.sl.r_47 c M9 h9 M10 h10 x9 x10 = expOf (row M9 M10 h9 h10 x9 x10) 9 := by
  unfold runB.sl.r_47; rw [max_0 c M9 M10 h9 h10 x9 x10, max_9 c M9 M10 h9 h10 x9 x10]; rfl
theorem exp_10 : runB.sl.r_48 c M9 h9 M10 h10 x9 x10 = expOf (row M9 M10 h9 h10 x9 x10) 10 := by
  unfold runB.sl.r_48; rw [max_0 c M9 M10 h9 h10 x9 x10, max_10 c M9 M10 h9 h10 x9 x10]; rfl
theorem exp_11 : runB.sl.r_49 c M9 h9 M10 h10 x9 x10 = expOf (row M9 M10 h9 h10 x9 x10) 11 := by
  unfold runB.sl.r_49; rw [max_0 c M9 M10 h9 h10 x9 x10, max_11 c M9 M10 h9 h10 x9 x10]; rfl
theorem exp_12 : runB.sl.r_50 c M9 h9 M10 h10 x9 x10 = expOf (row M9 M10 h9 h10 x9 x10) 12 := by
  unfold runB.sl.r_50; rw [max_0 c M9 M10 h9 h10 x9 x10, max_12 c M9 M10 h9 h10 x9 x10]; rfl
theorem exp_13 : runB.sl.r_51 c M9 h9 M10 h10 x9 x10 = expOf (row M9 M10 h9 h10 x9 x10) 13 := by
  unfold runB.sl.r_51; rw [max_0 c M9 M10 h9 h10 x9 x10, max_13 c M9 M10 h9 h10 x9 x10]; rfl
theorem exp_14 : runB.sl.r_52 c M9 h9 M10 h10 x9 x10 = expOf (row M9 M10 h9 h10 x9 x10) 14 := by
  show Scalar.exp (Scalar.subf (k0_pay70 runB.sl.v136 (runB.sl.r_35 c M9 h9 M10 h10 x9 x10) (runB.sl.r_37 c M9 h9 M10 h10 x9 x10)) (runB.sl.r_14 c M9 h9 M10 h10 x9 x10)) = _
  rw [max_14 c M9 M10 h9 h10 x9 x10, max_0 c M9 M10 h9 h10 x9 x10]; rfl
theorem sum_7 : runB.sl.r_53 c M9 h9 M10 h10 x9 x10 = expSum (row M9 M10 h9 h10 x9 x10) 7 := by
  unfold runB.sl.r_53; rw [max_0 c M9 M10 h9 h10 x9 x10, max_1 c M9 M10 h9 h10 x9 x10, max_2 c M9 M10 h9 h10 x9 x10, max_3 c M9 M10 h9 h10 x9 x10, max_4 c M9 M10 h9 h10 x9 x10, max_5 c M9 M10 h9 h10 x9 x10, max_6 c M9 M10 h9 h10 x9 x10, max_7 c M9 M10 h9 h10 x9 x10]; rfl
theorem scale_eq : runB.sl.r_54 c M9 h9 M10 h10 x9 x10 = scale (row M9 M10 h9 h10 x9 x10) := by
  unfold runB.sl.r_54; rw [exp_8 c M9 M10 h9 h10 x9 x10, exp_9 c M9 M10 h9 h10 x9 x10, exp_10 c M9 M10 h9 h10 x9 x10, exp_11 c M9 M10 h9 h10 x9 x10, exp_12 c M9 M10 h9 h10 x9 x10, exp_13 c M9 M10 h9 h10 x9 x10, exp_14 c M9 M10 h9 h10 x9 x10, sum_7 c M9 M10 h9 h10 x9 x10]; rfl

variable (M11 : Memref sig .tc .vmem S8x128x256 .f32) (h11 : M11.IsWhole) (x11 : Vec Ideal S8x128x256 .f32)

theorem wide_eq : runB.sl.r_55 c M11 h11 x11 = wide M11 h11 x11 := rfl
theorem acc_1 : runB.sl.r_56 c M9 h9 M10 h10 M11 h11 x9 x10 x11 = accOf (row M9 M10 h9 h10 x9 x10) (wide M11 h11 x11) 1 := by
  unfold runB.sl.r_56; rw [place_0 c M9 M10 h9 h10 x9 x10, exp_0 c M9 M10 h9 h10 x9 x10, exp_8 c M9 M10 h9 h10 x9 x10, exp_9 c M9 M10 h9 h10 x9 x10, exp_10 c M9 M10 h9 h10 x9 x10, exp_11 c M9 M10 h9 h10 x9 x10, exp_12 c M9 M10 h9 h10 x9 x10, exp_13 c M9 M10 h9 h10 x9 x10, exp_14 c M9 M10 h9 h10 x9 x10, sum_7 c M9 M10 h9 h10 x9 x10]; rfl
theorem turn_1 : runB.sl.r_57 c M9 h9 M10 h10 M11 h11 x9 x10 x11 = dynamicRotate 1 (leastKey (keyOf (rowAt (row M9 M10 h9 h10 x9 x10) 1))) none (wide M11 h11 x11) rotates_S128x2048_d1 := by
  unfold runB.sl.r_57; rw [place_1 c M9 M10 h9 h10 x9 x10]; rfl
theorem weight_1 : runB.sl.r_58 c M9 h9 M10 h10 x9 x10 = broadcast S128x2048 (Scalar.mulf (expOf (row M9 M10 h9 h10 x9 x10) 1) (scale (row M9 M10 h9 h10 x9 x10))) := by
  unfold runB.sl.r_58; rw [exp_1 c M9 M10 h9 h10 x9 x10, exp_8 c M9 M10 h9 h10 x9 x10, exp_9 c M9 M10 h9 h10 x9 x10, exp_10 c M9 M10 h9 h10 x9 x10, exp_11 c M9 M10 h9 h10 x9 x10, exp_12 c M9 M10 h9 h10 x9 x10, exp_13 c M9 M10 h9 h10 x9 x10, exp_14 c M9 M10 h9 h10 x9 x10, sum_7 c M9 M10 h9 h10 x9 x10]; rfl
theorem acc_13 : runB.sl.r_59 c M9 h9 M10 h10 M11 h11 x9 x10 x11 = accOf (row M9 M10 h9 h10 x9 x10) (wide M11 h11 x11) 13 := by
  unfold runB.sl.r_59
  rw [place_2 c M9 M10 h9 h10 x9 x10, place_3 c M9 M10 h9 h10 x9 x10, place_4 c M9 M10 h9 h10 x9 x10, place_5 c M9 M10 h9 h10 x9 x10, place_6 c M9 M10 h9 h10 x9 x10, place_7 c M9 M10 h9 h10 x9 x10, place_8 c M9 M10 h9 h10 x9 x10, place_9 c M9 M10 h9 h10 x9 x10, place_10 c M9 M10 h9 h10 x9 x10, place_11 c M9 M10 h9 h10 x9 x10, place_12 c M9 M10 h9 h10 x9 x10]
  rw [exp_2 c M9 M10 h9 h10 x9 x10, exp_3 c M9 M10 h9 h10 x9 x10, exp_4 c M9 M10 h9 h10 x9 x10, exp_5 c M9 M10 h9 h10 x9 x10, exp_6 c M9 M10 h9 h10 x9 x10, exp_7 c M9 M10 h9 h10 x9 x10, exp_8 c M9 M10 h9 h10 x9 x10, exp_9 c M9 M10 h9 h10 x9 x10, exp_10 c M9 M10 h9 h10 x9 x10, exp_11 c M9 M10 h9 h10 x9 x10, exp_12 c M9 M10 h9 h10 x9 x10]
  rw [scale_eq c M9 M10 h9 h10 x9 x10, wide_eq, acc_1, turn_1, weight_1]
  rfl
theorem turn_13 : runB.sl.r_60 c M9 h9 M10 h10 M11 h11 x9 x10 x11 = dynamicRotate 1 (leastKey (keyOf (rowAt (row M9 M10 h9 h10 x9 x10) 13))) none (wide M11 h11 x11) rotates_S128x2048_d1 := by
  unfold runB.sl.r_60; rw [place_13 c M9 M10 h9 h10 x9 x10, wide_eq]; rfl
theorem weight_13 : runB.sl.r_61 c M9 h9 M10 h10 x9 x10 = broadcast S128x2048 (Scalar.mulf (expOf (row M9 M10 h9 h10 x9 x10) 13) (scale (row M9 M10 h9 h10 x9 x10))) := by
  unfold runB.sl.r_61; rw [exp_13 c M9 M10 h9 h10 x9 x10, scale_eq c M9 M10 h9 h10 x9 x10]; rfl

theorem acc_15 : k0_pay96 (runB.sl.v372 c M9 h9 M10 h10 x9 x10) (runB.sl.r_52 c M9 h9 M10 h10 x9 x10) (runB.sl.r_54 c M9 h9 M10 h10 x9 x10) (runB.sl.r_55 c M11 h11 x11)
      (runB.sl.r_59 c M9 h9 M10 h10 M11 h11 x9 x10 x11) (runB.sl.r_60 c M9 h9 M10 h10 M11 h11 x9 x10 x11) (runB.sl.r_61 c M9 h9 M10 h10 x9 x10)
    = accOf (row M9 M10 h9 h10 x9 x10) (wide M11 h11 x11) 15 := by
  rw [place_14 c M9 M10 h9 h10 x9 x10, exp_14 c M9 M10 h9 h10 x9 x10, scale_eq c M9 M10 h9 h10 x9 x10, wide_eq, acc_13, turn_13, weight_13]
  rfl

end Cert.KernelIdeal.Value
-- ==== Proof.KernelIdeal.Mix.lean ====
/-
  The kernel's weights and weighted sum, over the reals.
-/
module

public import proofs.«01_k».proof.Proof.KernelIdeal.Names

@[expose] public section

set_option maxRecDepth 16384

noncomputable section

namespace Cert.KernelIdeal.Value

open Cert.KernelIdeal Cert.KernelIdeal.Gen
open Idealize.ShloMosaic Cert.Math

variable {x : FVec Ideal S1x2048 .f32} {y : Fin 2048 → ℝ}

/-- The lags chosen: the places found, counted backwards. -/
def chosen (x : FVec Ideal S1x2048 .f32) (i : Fin 15) : Fin 2048 := -placeOf (rowAt x i)

theorem chosen_top (h : ∀ c, entries x c = ((y (-c) : ℝ) : EReal)) : IsTop y (chosen x) where
  inj i j e := Fin.ext ((rowAt_rounds x (fun c => y (-c)) h).1 i i.isLt j j.isLt (neg_injective e))
  le u hu i := by
    have := (rowAt_rounds x (fun c => y (-c)) h).2.2.1 (-u) (fun i hi e => hu ⟨i, hi⟩ (by show -placeOf (rowAt x i) = u; rw [e, neg_neg])) i i.isLt
    rw [neg_neg] at this
    exact this

theorem peak_eq (h : ∀ c, entries x c = ((y (-c) : ℝ) : EReal)) : peak y (chosen x) = y (chosen x 0) :=
  le_antisymm (Finset.sup'_le _ _ fun i _ => (rowAt_rounds x (fun c => y (-c)) h).2.2.2 0 (by norm_num) i i.isLt (Nat.zero_le _))
    (Finset.le_sup' (fun i => y (chosen x i)) (Finset.mem_univ 0))

theorem exp_sub (a b : Ideal .f32) : Scalar.exp (Scalar.subf a b) = (Ideal.exp (a - b : EReal) : EReal) := rfl
theorem mul_inv (a b : Ideal .f32) :
    Scalar.mulf a (Scalar.divf (Scalar.ofBits .f32 0x3F800000#32) b) = (a * Ideal.div (Ideal.ofBits FTy.f32 0x3F800000#32) b : EReal) := rfl

theorem expOf_eq (h : ∀ c, entries x c = ((y (-c) : ℝ) : EReal)) (i : Fin 15) :
    (expOf x i : EReal) = ((Real.exp (y (chosen x i) - peak y (chosen x)) : ℝ) : EReal) := by
  have hm := (rowAt_rounds x (fun c => y (-c)) h).2.1
  refine (exp_sub _ _).trans ?_
  rw [hm i i.isLt, hm 0 (by norm_num), ← EReal.coe_sub, Ideal.exp_coe, peak_eq h]
  rfl

theorem expSum_eq (h : ∀ c, entries x c = ((y (-c) : ℝ) : EReal)) :
    (expSum x 14 : EReal) = ((∑ j, Real.exp (y (chosen x j) - peak y (chosen x)) : ℝ) : EReal) := by
  have hs : ∀ n, (expSum x n : EReal) = ∑ k ∈ Finset.range (n + 1), (expOf x k : EReal) := by
    intro n
    induction n with
    | zero => exact (Finset.sum_range_one (fun k => (expOf x k : EReal))).symm
    | succ n ih =>
      rw [Finset.sum_range_succ, ← ih]
      rfl
  rw [hs, ← Fin.sum_univ_eq_sum_range (fun k => (expOf x k : EReal)) 15, coe_sum]
  exact Finset.sum_congr rfl fun i _ => expOf_eq h i

theorem weight_eq (h : ∀ c, entries x c = ((y (-c) : ℝ) : EReal)) (i : Fin 15) :
    (Scalar.mulf (expOf x i) (scale x) : EReal) = ((weight y (chosen x) i : ℝ) : EReal) := by
  have hp : (∑ j, Real.exp (y (chosen x j) - peak y (chosen x))) ≠ 0 := (Finset.sum_pos (fun _ _ => Real.exp_pos _) Finset.univ_nonempty).ne'
  have hone : (Ideal.ofBits FTy.f32 0x3F800000#32 : EReal) = 1 := by pointwise
  refine (mul_inv _ _).trans ?_
  rw [hone, expSum_eq h, Ideal.div_coe hp, one_mul, expOf_eq h, ← EReal.coe_mul, mul_one_div]
  rfl

theorem turn_apply (v : FVec Ideal S128x2048 .f32) (k : BitVec 32) (p : Fin 2048) (hk : k = BitVec.ofNat 32 p.val) (f : Fin 128) (t : Fin 2048) :
    dynamicRotate 1 k none v rotates_S128x2048_d1 (ix2 f t) = v (ix2 f (t + -p)) := by
  subst hk
  refine congrArg v (funext fun a => ?_)
  match a with
  | ⟨0, _⟩ => rfl
  | ⟨1, _⟩ =>
    refine Fin.ext ?_
    have hp := p.isLt
    have ht := t.isLt
    have e : (BitVec.ofNat 32 p.val).toNat % 2048 = p.val := by rw [BitVec.toNat_ofNat]; omega
    show (t.val + 2048 - (BitVec.ofNat 32 p.val).toNat % 2048) % 2048 = (t + -p).val
    rw [e, ← sub_eq_add_neg, Fin.sub_def]
    show _ = (2048 - p.val + t.val) % 2048
    congr 1
    omega

/-- The kernel's weighted sum. -/
theorem accOf_eq (h : ∀ c, entries x c = ((y (-c) : ℝ) : EReal)) (v : FVec Ideal S128x2048 .f32) (f : Fin 128) (t : Fin 2048) :
    (accOf x v 15 (ix2 f t) : EReal) = mix y (chosen x) (fun u => v (ix2 f u)) t := by
  have hs : ∀ n, (accOf x v n (ix2 f t) : EReal)
      = ∑ k ∈ Finset.range n, ((Scalar.mulf (expOf x k) (scale x) : EReal) * v (ix2 f (t + -placeOf (rowAt x k)))) := by
    intro n
    induction n with
    | zero =>
      have hz : (Ideal.ofBits FTy.f32 0x00000000#32 : EReal) = 0 := by pointwise
      exact hz
    | succ n ih =>
      rw [Finset.sum_range_succ, ← ih, ← turn_apply v _ _ (place_spec (rowAt x n)).1 f t]
      rfl
  rw [hs, ← Fin.sum_univ_eq_sum_range (fun k => ((Scalar.mulf (expOf x k) (scale x) : EReal) * v (ix2 f (t + -placeOf (rowAt x k))))) 15]
  exact Finset.sum_congr rfl fun i _ => by rw [weight_eq h]; rfl

end Cert.KernelIdeal.Value
-- ==== Proof.KernelIdeal.Blocks.lean ====
/-
  The kernel's operand blocks and projection buffers at an entry.
-/
module

public import proofs.«01_k».proof.Proof.KernelIdeal.Mix
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Body
open Idealize.ShloMosaic Idealize.ShloMosaic.TcCoe Cert.Math

variable (m : (ℓ : Loc nD τ sig) → Buf (Elt Ideal) ℓ) (c : Dev nD)

/-! ## The blocks -/

theorem index0 : ∀ t : Fin cfg0.N, t.val < 8 → (∀ a, (cfg0.win 0).index t a = ![0, t.val, 0] a)
    ∧ (∀ a, (cfg0.win 1).index t a = ![0, t.val, 0] a) ∧ ∀ a, (cfg0.win 2).index t a = ![0, t.val, 0] a :=
  (by decide +kernel : ∀ t : Fin grid0.N, t.val < 8 → (∀ a, win0_0.index t a = ![0, t.val, 0] a)
    ∧ (∀ a, win0_1.index t a = ![0, t.val, 0] a) ∧ ∀ a, win0_2.index t a = ![0, t.val, 0] a)

/-- The place in the sequence of place `j` of block `t`. -/
abbrev place (t : ℕ) (h : t < 8) (j : Fin 256) : Fin 2048 := ⟨t * 256 + j, by omega⟩

/-- Where an entry of a block lies in its operand. -/
theorem emb_slot (t : ℕ) (ht : t < 8) (z : Fin 2) (j : Fin 256) (d : Fin 1024) (o : S2x2048x1024.Idx)
    (ho : ∀ a, (o a : ℕ) = ![0, t, 0] a * S2x256x1024.size a + (ix3 z j d : S2x256x1024.Idx) a) : o = ix3 z (place t ht j) d := by
  refine funext fun a => Fin.ext ((ho a).trans ?_)
  fin_cases a
  · show 0 * 2 + z.val = z.val; omega
  · rfl
  · show 0 * 1024 + d.val = d.val; omega

theorem iblk0 (t : Fin cfg0.N) (ht : t.val < 8) (z : Fin 2) (j : Fin 256) (d : Fin 1024) :
    iblk m c 0 t (ix3 z j d) = m ((c : Thread nD τ).loc main_arg0) (ix3 z (place t ht j) d) := by
  unfold iblk
  rw [View.read_apply]
  show V m c main_arg0 (((cfg0.win 0).rect t).emb (ix3 z j d)) = _
  rw [V_main_arg0]
  exact congrArg _ (emb_slot t ht z j d _ fun a => (Pipeline.Window.rect_emb_val (cfg0.win 0) t (ix3 z j d) a).trans
    (congrArg (fun n => n * _ + _) ((index0 t ht).1 a)))

theorem iblk1 (t : Fin cfg0.N) (ht : t.val < 8) (z : Fin 2) (j : Fin 256) (d : Fin 1024) :
    iblk m c 1 t (ix3 z j d) = m ((c : Thread nD τ).loc main_arg1) (ix3 z (place t ht j) d) := by
  unfold iblk
  rw [View.read_apply]
  show V m c main_arg1 (((cfg0.win 1).rect t).emb (ix3 z j d)) = _
  rw [V_main_arg1]
  exact congrArg _ (emb_slot t ht z j d _ fun a => (Pipeline.Window.rect_emb_val (cfg0.win 1) t (ix3 z j d) a).trans
    (congrArg (fun n => n * _ + _) ((index0 t ht).2.1 a)))

theorem iblk2 (t : Fin cfg0.N) (ht : t.val < 8) (z : Fin 2) (j : Fin 256) (d : Fin 1024) :
    iblk m c 2 t (ix3 z j d) = m ((c : Thread nD τ).loc main_arg2) (ix3 z (place t ht j) d) := by
  unfold iblk
  rw [View.read_apply]
  show V m c main_arg2 (((cfg0.win 2).rect t).emb (ix3 z j d)) = _
  rw [V_main_arg2]
  exact congrArg _ (emb_slot t ht z j d _ fun a => (Pipeline.Window.rect_emb_val (cfg0.win 2) t (ix3 z j d) a).trans
    (congrArg (fun n => n * _ + _) ((index0 t ht).2.2 a)))

/-- A window over its whole array reads the array. -/
theorem iblk3 (t : Fin cfg0.N) (x : S1024x64.Idx) : iblk m c 3 t x = m ((c : Thread nD τ).loc main_arg3) x := by
  unfold iblk
  rw [View.read_apply]
  show V m c main_arg3 (((cfg0.win 3).rect t).emb x) = _
  rw [V_main_arg3]
  exact congrArg _ (funext fun a => Fin.ext (Pipeline.Window.rect_emb_val_of_index_zero _ _ _ (by fin_cases a <;> rfl) _))

theorem iblk5 (t : Fin cfg0.N) (x : S1024x1024.Idx) : iblk m c 5 t x = m ((c : Thread nD τ).loc main_arg5) x := by
  unfold iblk
  rw [View.read_apply]
  show V m c main_arg5 (((cfg0.win 5).rect t).emb x) = _
  rw [V_main_arg5]
  exact congrArg _ (funext fun a => Fin.ext (Pipeline.Window.rect_emb_val_of_index_zero _ _ _ (by fin_cases a <;> rfl) _))

theorem V_v0 : V m c main_v0 = shapeCast S64x1 (m ((c : Thread nD τ).loc main_arg4)) shapeCasts_S64_S64x1 := by
  unfold V hostOps0
  simp only [StableHlo.after_cons, StableHlo.after_nil]
  refine (StableHlo.reshape_result_ne _ _ _ _ _ _ _ (r := main_v0) (by decide)).trans ?_
  exact (StableHlo.reshape_result _ _ _ _ _ _ _).trans rfl

theorem V_v1 : V m c main_v1 = shapeCast S1x1024 (m ((c : Thread nD τ).loc main_arg6)) shapeCasts_S1024_S1x1024 := by
  unfold V hostOps0
  simp only [StableHlo.after_cons, StableHlo.after_nil]
  refine (StableHlo.reshape_result _ _ _ _ _ _ _).trans ?_
  exact congrArg (fun v => shapeCast S1x1024 v shapeCasts_S1024_S1x1024) (StableHlo.reshape_result_ne _ _ _ _ _ _ _ (r := main_arg6) (by decide))

theorem iblk4 (t : Fin cfg0.N) (h : Fin 64) (z : Fin 1) : iblk m c 4 t (ix2 h z) = m ((c : Thread nD τ).loc main_arg4) (ix1 h) := by
  unfold iblk
  rw [View.read_apply]
  show V m c main_v0 (((cfg0.win 4).rect t).emb (ix2 h z)) = _
  rw [V_v0, show ((cfg0.win 4).rect t).emb (ix2 h z) = (ix2 h z : S64x1.Idx) from
    funext fun a => Fin.ext (Pipeline.Window.rect_emb_val_of_index_zero _ _ _ (by fin_cases a <;> rfl) _)]
  pointwise

theorem iblk6 (t : Fin cfg0.N) (z : Fin 1) (e : Fin 1024) : iblk m c 6 t (ix2 z e) = m ((c : Thread nD τ).loc main_arg6) (ix1 e) := by
  unfold iblk
  rw [View.read_apply]
  show V m c main_v1 (((cfg0.win 6).rect t).emb (ix2 z e)) = _
  rw [V_v1, show ((cfg0.win 6).rect t).emb (ix2 z e) = (ix2 z e : S1x1024.Idx) from
    funext fun a => Fin.ext (Pipeline.Window.rect_emb_val_of_index_zero _ _ _ (by fin_cases a <;> rfl) _)]
  pointwise

/-! ## The projection buffers -/

/-- Entry `(z, t)` of the projection of an operand to head feature `h`. -/
def head (x : S2x2048x1024.Idx → EReal) (w : S1024x64.Idx → EReal) (b : S64.Idx → EReal) (z : Fin 2) (h : Fin 64) (t : Fin 2048) : EReal :=
  (∑ d : Fin 1024, x (ix3 z t d) * w (ix2 d h)) + b (ix1 h)

theorem half0_entry (X : Vec Ideal S2x256x1024 .f32) (j : Fin 256) (d : Fin 1024) : half0 X (ix3 0 j d) = X (ix3 0 j d) := by
  pointwise [half0]

theorem half1_entry (X : Vec Ideal S2x256x1024 .f32) (j : Fin 256) (d : Fin 1024) : half1 X (ix3 0 j d) = X (ix3 1 j d) := by
  pointwise [half1]

theorem proj_entry (w : Vec Ideal S1024x64 .f32) (b : Vec Ideal S64x1 .f32) (X : Vec Ideal S2x256x1024 .f32) (z : Fin 1) (f : Fin 128) (j : Fin 256) :
    (proj w b X (ix3 z f j) : EReal) = (∑ d : Fin 1024, (X (ix3 (⟨f.val / 64, by omega⟩ : Fin 2) j d) : EReal) * w (ix2 d (⟨f.val % 64, by omega⟩ : Fin 64)))
      + b (ix2 (⟨f.val % 64, by omega⟩ : Fin 64) (0 : Fin 1)) := by
  unfold proj
  pointwise [k0_pay5, k0_pay4]
  split
  · rename_i hf
    rw [show (⟨f.val / 64, by omega⟩ : Fin 2) = 0 from Fin.ext (by show f.val / 64 = 0; omega),
      show (⟨f.val % 64, by omega⟩ : Fin 64) = ⟨f.val, hf⟩ from Fin.ext (by show f.val % 64 = f.val; omega)]
    exact congrArg (fun s : EReal => s + _) (Finset.sum_congr rfl fun d _ => by rw [half0_entry, mul_comm])
  · rename_i hf
    rw [show (⟨f.val / 64, by omega⟩ : Fin 2) = 1 from Fin.ext (by show f.val / 64 = 1; omega),
      show (⟨f.val % 64, by omega⟩ : Fin 64) = ⟨f.val - 64, by omega⟩ from Fin.ext (by show f.val % 64 = f.val - 64; omega)]
    exact congrArg (fun s : EReal => s + _) (Finset.sum_congr rfl fun d _ => by rw [half1_entry, mul_comm])

/-- The batch and the head feature of a row of a projection buffer. -/
abbrev batchOf (f : Fin 128) : Fin 2 := ⟨f.val / 64, by omega⟩
abbrev featOf (f : Fin 128) : Fin 64 := ⟨f.val % 64, by omega⟩

theorem slot_entry (k : ℕ) (hk : k < 8) (X : Vec Ideal S2x256x1024 .f32) (w : Vec Ideal S1024x64 .f32) (b : Vec Ideal S64x1 .f32)
    (x : S2x2048x1024.Idx → EReal) (w' : S1024x64.Idx → EReal) (b' : S64.Idx → EReal)
    (hX : ∀ z j d, X (ix3 z j d) = x (ix3 z (place k hk j) d)) (hw : ∀ i, w i = w' i) (hb : ∀ h z, b (ix2 h z) = b' (ix1 h)) (z : Fin 1) (f : Fin 128) (j : Fin 256) :
    (proj w b X (ix3 z f j) : EReal) = head x w' b' (batchOf f) (featOf f) (place k hk j) := by
  rw [proj_entry]
  simp only [hX, hw, hb, head]

theorem inSlot_at (k : Fin 8) (f : Fin 128) (j : Fin 256) : inSlot (ix3 k f j) = ix3 0 f j := by
  funext a; fin_cases a <;> rfl

theorem slotPoint_at (k : Fin 8) (f : Fin 128) (j : Fin 256) : (slotPoint (ix3 k f j)).val = k.val := rfl

theorem place_eq {a b : ℕ} (e : a = b) (ha : a < 8) (hb : b < 8) (j : Fin 256) : place a ha j = place b hb j := by subst e; rfl

theorem full9_entry (k : Fin 8) (f : Fin 128) (j : Fin 256) : (full9 m c (ix3 k f j) : EReal)
    = head (m ((c : Thread nD τ).loc main_arg0)) (m ((c : Thread nD τ).loc main_arg3)) (m ((c : Thread nD τ).loc main_arg4)) (batchOf f) (featOf f) (place k k.isLt j) := by
  have e := slotPoint_at k f j
  unfold full9
  rw [inSlot_at]
  generalize slotPoint (ix3 k f j) = t at e ⊢
  have ht : t.val < 8 := e ▸ k.isLt
  exact (slot_entry t.val ht _ _ _ _ _ _ (iblk0 m c t ht) (iblk3 m c t) (iblk4 m c t) 0 f j).trans (congrArg _ (place_eq e ht k.isLt j))

theorem full10_entry (k : Fin 8) (f : Fin 128) (j : Fin 256) : (full10 m c (ix3 k f j) : EReal)
    = head (m ((c : Thread nD τ).loc main_arg1)) (m ((c : Thread nD τ).loc main_arg3)) (m ((c : Thread nD τ).loc main_arg4)) (batchOf f) (featOf f) (place k k.isLt j) := by
  have e := slotPoint_at k f j
  unfold full10
  rw [inSlot_at]
  generalize slotPoint (ix3 k f j) = t at e ⊢
  have ht : t.val < 8 := e ▸ k.isLt
  exact (slot_entry t.val ht _ _ _ _ _ _ (iblk1 m c t ht) (iblk3 m c t) (iblk4 m c t) 0 f j).trans (congrArg _ (place_eq e ht k.isLt j))

theorem full11_entry (k : Fin 8) (f : Fin 128) (j : Fin 256) : (full11 m c (ix3 k f j) : EReal)
    = head (m ((c : Thread nD τ).loc main_arg2)) (m ((c : Thread nD τ).loc main_arg3)) (m ((c : Thread nD τ).loc main_arg4)) (batchOf f) (featOf f) (place k k.isLt j) := by
  have e := slotPoint_at k f j
  unfold full11
  rw [inSlot_at]
  generalize slotPoint (ix3 k f j) = t at e ⊢
  have ht : t.val < 8 := e ▸ k.isLt
  exact (slot_entry t.val ht _ _ _ _ _ _ (iblk2 m c t ht) (iblk3 m c t) (iblk4 m c t) 0 f j).trans (congrArg _ (place_eq e ht k.isLt j))

/-! ## The eight slots side by side -/

theorem slotRead_entry (M : Memref sig .tc .vmem S8x128x256 .f32) (hM : M.IsWhole) (x : Vec Ideal S8x128x256 .f32) (k : ℕ) (hk) (hk8 : k < 8)
    (f : Fin 128) (j : Fin 256) : slotRead M hM x k hk (ix3 0 f j) = x (ix3 (⟨k, hk8⟩ : Fin 8) f j) := by
  unfold slotRead
  rw [readAt_eq]
  refine congrArg x (funext fun a => Fin.ext ?_)
  fin_cases a
  · show k + 1 * 0 = k; omega
  · show 0 + 1 * f.val = f.val; omega
  · show 0 + 1 * j.val = j.val; omega

theorem slotRead_at (M : Memref sig .tc .vmem S8x128x256 .f32) (hM : M.IsWhole) (x : Vec Ideal S8x128x256 .f32) (k : ℕ) (hk) (hk8 : k < 8)
    (f : Fin 128) (t : Fin 2048) (u : ℕ) (hu : u < 256) (ht : t.val = k * 256 + u) :
    slotRead M hM x k hk (ix3 0 f ⟨u, hu⟩) = x (ix3 (⟨t.val / 256, by omega⟩ : Fin 8) f (⟨t.val % 256, by omega⟩ : Fin 256)) := by
  rw [slotRead_entry M hM x k hk hk8]
  rw [show (⟨k, hk8⟩ : Fin 8) = ⟨t.val / 256, by omega⟩ from Fin.ext (by show k = t.val / 256; omega),
    show (⟨u, hu⟩ : Fin 256) = ⟨t.val % 256, by omega⟩ from Fin.ext (by show u = t.val % 256; omega)]

theorem wide_entry (M : Memref sig .tc .vmem S8x128x256 .f32) (hM : M.IsWhole) (x : Vec Ideal S8x128x256 .f32) (f : Fin 128) (t : Fin 2048) :
    wide M hM x (ix2 f t) = x (ix3 (⟨t.val / 256, by omega⟩ : Fin 8) f (⟨t.val % 256, by omega⟩ : Fin 256)) := by
  unfold wide
  pointwise [k0_pay7]
  have := t.isLt
  repeat' split
  all_goals exact slotRead_at M hM x _ _ (by norm_num) f t _ _ (by omega)

theorem place_div (t : Fin 2048) (h) : place (t.val / 256) h ⟨t.val % 256, by omega⟩ = t := Fin.ext (by show t.val / 256 * 256 + t.val % 256 = t.val; omega)

/-- The sequence a filled projection buffer holds. -/
theorem wide_full (M : Memref sig .tc .vmem S8x128x256 .f32) (hM : M.IsWhole) (X : Vec Ideal S8x128x256 .f32) (g : Fin 2 → Fin 64 → Fin 2048 → EReal)
    (hX : ∀ (k : Fin 8) (f : Fin 128) (j : Fin 256), (X (ix3 k f j) : EReal) = g (batchOf f) (featOf f) (place k k.isLt j)) (f : Fin 128) (t : Fin 2048) :
    (wide M hM X (ix2 f t) : EReal) = g (batchOf f) (featOf f) t :=
  ((wide_entry M hM X f t).trans (hX _ f _)).trans (congrArg _ (place_div t _))

end Cert.KernelIdeal.Value

end
-- ==== Proof.KernelIdeal.Rows.lean ====
/-
  The rows of the product buffer at an entry: the weighted sum, its even and odd rows spread out, times the output weight.
-/
module

public import proofs.«01_k».proof.Proof.KernelIdeal.Blocks

@[expose] public section

set_option maxRecDepth 16384

noncomputable section

namespace Cert.KernelIdeal.Value

open Cert.KernelIdeal Cert.KernelIdeal.Gen Cert.KernelIdeal.Body
open Idealize.ShloMosaic Idealize.ShloMosaic.TcCoe Cert.Math

theorem sum_rows (G : Fin 2 → Fin 64 → ℝ) : ∑ f : Fin 128, G (batchOf f) (featOf f) = ∑ z, ∑ h, G z h := by
  rw [← Fintype.sum_prod_type']
  exact Fintype.sum_equiv (finProdFinEquiv (m := 2) (n := 64)).symm _ _ fun f => rfl

theorem flag_eq {a b : BitVec 32} {p : Prop} [Decidable p] (h : a = b ↔ p) :
    (FloatOps.sitofp (F := Ideal) FTy.f32 (BitVec.setWidth 32 (IntOp.cmpi .eq a b)) : EReal) = if p then 1 else 0 := by
  by_cases e : a = b
  · subst e
    rw [if_pos (h.mp rfl), show IntOp.cmpi .eq a a = 1#1 by simp [IntOp.cmpi]]
    show (((BitVec.setWidth 32 (1#1)).toInt : ℝ) : EReal) = 1
    rw [show (BitVec.setWidth 32 (1#1)).toInt = 1 from by decide]; norm_num
  · rw [if_neg (fun q => e (h.mpr q)), show IntOp.cmpi .eq a b = 0#1 by simp only [IntOp.cmpi]; rw [beq_eq_false_iff_ne.mpr e]; rfl]
    show (((BitVec.setWidth 32 (0#1)).toInt : ℝ) : EReal) = 0
    rw [show (BitVec.setWidth 32 (0#1)).toInt = 0 from by decide]; norm_num

theorem even_entry (i : Fin 128) (y : Fin 64) : (k0_pay97 (F := Ideal) (ix2 i y) : EReal) = if i.val = 2 * y.val then 1 else 0 := by
  pointwise [k0_pay97]
  refine flag_eq ?_
  rw [← BitVec.toNat_inj]
  simp only [IntOp.muli, BitVec.toNat_mul, BitVec.toNat_ofNat]
  omega

theorem odd_entry (i : Fin 128) (y : Fin 64) : (k0_pay98 (F := Ideal) (ix2 i y) : EReal) = if i.val = 2 * y.val + 1 then 1 else 0 := by
  pointwise [k0_pay98]
  refine flag_eq ?_
  rw [← BitVec.toNat_inj]
  simp only [IntOp.muli, IntOp.addi, BitVec.toNat_mul, BitVec.toNat_add, BitVec.toNat_ofNat]
  omega

/-- A row of zeros and a one reads the entry at the one. -/
theorem sum_flag (p : Fin 64 → Prop) [DecidablePred p] (v : Fin 64 → EReal) (k : Fin 64) (h : ∀ y, p y ↔ y = k) :
    ∑ y, (if p y then 1 else 0) * v y = v k := by
  rw [Finset.sum_eq_single k (fun y _ hy => by rw [if_neg (fun q => hy ((h y).mp q)), zero_mul]) (fun hk => absurd (Finset.mem_univ k) hk),
    if_pos ((h k).mpr rfl), one_mul]

theorem sum_none (p : Fin 64 → Prop) [DecidablePred p] (v : Fin 64 → EReal) (h : ∀ y, ¬p y) : ∑ y, (if p y then 1 else 0) * v y = 0 :=
  Finset.sum_eq_zero fun y _ => by rw [if_neg (h y), zero_mul]

/-- Spreading the even and the odd rows out: row `i` of the result is half-row `i % 2` of row `i / 2`. -/
theorem spread (u v : Fin 64 → EReal) (i : Fin 128) :
    (∑ y, (k0_pay97 (F := Ideal) (ix2 i y) : EReal) * u y) + (∑ y, (k0_pay98 (F := Ideal) (ix2 i y) : EReal) * v y)
      = if i.val % 2 = 0 then u ⟨i.val / 2, by omega⟩ else v ⟨i.val / 2, by omega⟩ := by
  simp only [even_entry, odd_entry]
  split
  · rw [sum_flag (fun y : Fin 64 => i.val = 2 * y.val) u ⟨i.val / 2, by omega⟩ (fun y => by rw [Fin.ext_iff]; show _ ↔ y.val = i.val / 2; omega),
      sum_none _ v (fun y => by omega), add_zero]
  · rw [sum_none _ u (fun y => by omega),
      sum_flag (fun y : Fin 64 => i.val = 2 * y.val + 1) v ⟨i.val / 2, by omega⟩ (fun y => by rw [Fin.ext_iff]; show _ ↔ y.val = i.val / 2; omega), zero_add]

/-- The spread row of a batch: its entry `j`. -/
def spreadRow (acc : FVec Ideal S128x2048 .f32) (z : Fin 2) (i : Fin 128) (j : Fin 1024) : EReal :=
  acc (ix2 (⟨z.val * 64 + i.val / 2, by omega⟩ : Fin 128) (⟨i.val % 2 * 1024 + j.val, by omega⟩ : Fin 2048))

theorem spread_eq (acc : FVec Ideal S128x2048 .f32) (z : Fin 2) (i : Fin 128) (j : Fin 1024) (u v : Fin 64 → EReal)
    (hu : ∀ y, u y = acc (ix2 (⟨z.val * 64 + y.val, by omega⟩ : Fin 128) (⟨j.val, by omega⟩ : Fin 2048)))
    (hv : ∀ y, v y = acc (ix2 (⟨z.val * 64 + y.val, by omega⟩ : Fin 128) (⟨1024 + j.val, by omega⟩ : Fin 2048))) :
    (∑ y, (k0_pay97 (F := Ideal) (ix2 i y) : EReal) * u y) + (∑ y, (k0_pay98 (F := Ideal) (ix2 i y) : EReal) * v y) = spreadRow acc z i j := by
  rw [spread, spreadRow]
  split
  · rw [hu]
    exact congrArg (fun k : Fin 2048 => acc (ix2 _ k)) (Fin.ext (by show j.val = i.val % 2 * 1024 + j.val; omega))
  · rw [hv]
    exact congrArg (fun k : Fin 2048 => acc (ix2 _ k)) (Fin.ext (by show 1024 + j.val = i.val % 2 * 1024 + j.val; omega))

/-- The product of a spread row with the output weight. -/
def product (acc : FVec Ideal S128x2048 .f32) (wo : S1024x1024.Idx → EReal) (z : Fin 2) (i : Fin 128) (e : Fin 1024) : EReal :=
  ∑ j : Fin 1024, spreadRow acc z i j * wo (ix2 j e)

variable (v372 : BitVec 32) (v402 v417 : Ideal .f32) (v434 v500 v502 v503 acc : FVec Ideal S128x2048 .f32)

theorem first_entry (hacc : k0_pay96 v372 v402 v417 v434 v500 v502 v503 = acc) (wo : Vec Ideal S1024x1024 .f32) (bo : Vec Ideal S1x1024 .f32)
    (z : Fin 1) (i : Fin 128) (e : Fin 1024) :
    (k0_pay100 v372 v402 v417 v434 v500 v502 v503 wo bo (ix3 z i e) : EReal) = product acc wo 0 i e + bo (ix2 (0 : Fin 1) e) := by
  unfold k0_pay100
  rw [hacc]
  pointwise [k0_pay99]
  unfold product
  exact congrArg (fun s : EReal => s + _) (Finset.sum_congr rfl fun j _ => congrArg (fun s : EReal => s * _)
    (spread_eq acc 0 i j _ _ (fun y => congrArg (fun k : Fin 128 => acc (ix2 k _)) (Fin.ext (by show y.val = 0 * 64 + y.val; omega)))
      (fun y => congrArg (fun k : Fin 128 => acc (ix2 k _)) (Fin.ext (by show y.val = 0 * 64 + y.val; omega)))))

theorem second_entry (hacc : k0_pay96 v372 v402 v417 v434 v500 v502 v503 = acc) (wo : Vec Ideal S1024x1024 .f32) (bo : Vec Ideal S1x1024 .f32)
    (z : Fin 1) (i : Fin 128) (e : Fin 1024) :
    (k0_pay2 (k0_pay99 bo) (k0_pay101 v372 v402 v417 v434 v500 v502 v503 wo) (ix3 z i e) : EReal) = product acc wo 1 i e + bo (ix2 (0 : Fin 1) e) := by
  unfold k0_pay101
  rw [hacc]
  pointwise [k0_pay2, k0_pay99]
  unfold product
  exact congrArg (fun s : EReal => s + _) (Finset.sum_congr rfl fun j _ => congrArg (fun s : EReal => s * _)
    (spread_eq acc 1 i j _ _ (fun y => congrArg (fun k : Fin 128 => acc (ix2 k _)) (Fin.ext (by show 64 + y.val = 1 * 64 + y.val; omega)))
      (fun y => congrArg (fun k : Fin 128 => acc (ix2 k _)) (Fin.ext (by show 64 + y.val = 1 * 64 + y.val; omega)))))

/-- What a block stored at the last points holds: the product row eight times over. -/
theorem stored_entry (r : Vec Ideal S1x128x1024 .f32) (z : Fin 1) (p : Fin 1024) (e : Fin 1024) :
    k0_pay3 r (ix3 z p e) = r (ix3 (0 : Fin 1) (⟨p.val % 128, by omega⟩ : Fin 128) e) := by
  pointwise [k0_pay3]
  have := p.isLt
  repeat' split
  all_goals exact congrArg (fun k : Fin 128 => r (ix3 0 k e)) (Fin.ext (by show _ = p.val % 128; dsimp only; omega))

/-! ## The rows of the launch -/

variable (m : (ℓ : Loc nD τ sig) → Buf (Elt Ideal) ℓ) (c : Dev nD)

/-- The correlation row and the weighted sum of the launch. -/
def launchRow : FVec Ideal S1x2048 .f32 :=
  row scM0_0 scM0_1 (Memref.isWhole_whole _) (Memref.isWhole_whole _) (full9 m c) (full10 m c)
def launchAcc : FVec Ideal S128x2048 .f32 := accOf (launchRow m c) (wide scM0_2 (Memref.isWhole_whole _) (full11 m c)) 15

theorem wo_eq : (fun x => iblk m c 5 t8 ((Rect.unit (s := S1024x1024) ![0, 0] S1024x1024.size inb_S1024x1024_S1024x1024_0_0).toLoadRect.idx x))
    = m ((c : Thread nD τ).loc main_arg5) :=
  funext fun x => (iblk5 m c t8 _).trans (congrArg _ (funext fun a => Fin.ext (by
    rw [LoadRect.idx_apply]; fin_cases a
    · show 0 + 1 * (x 0).val = (x 0).val; omega
    · show 0 + 1 * (x 1).val = (x 1).val; omega)))

theorem bo_eq (e : Fin 1024) : iblk m c 6 t8 ((Rect.unit (s := S1x1024) ![0, 0] S1x1024.size inb_S1x1024_S1x1024_0_0).toLoadRect.idx (ix2 (0 : Fin 1) e))
    = m ((c : Thread nD τ).loc main_arg6) (ix1 e) :=
  (congrArg _ (show (Rect.unit (s := S1x1024) ![0, 0] S1x1024.size inb_S1x1024_S1x1024_0_0).toLoadRect.idx (ix2 (0 : Fin 1) e) = ix2 (0 : Fin 1) e from
    funext fun a => Fin.ext (by
      rw [LoadRect.idx_apply]; fin_cases a
      · rfl
      · show 0 + 1 * e.val = e.val; omega))).trans (iblk6 m c t8 0 e)

theorem row0_entry (z : Fin 1) (i : Fin 128) (e : Fin 1024) : (row0 m c (ix3 z i e) : EReal)
    = product (launchAcc m c) (m ((c : Thread nD τ).loc main_arg5)) 0 i e + (m ((c : Thread nD τ).loc main_arg6) (ix1 e) : EReal) := by
  unfold row0
  have h := acc_15 c scM0_0 scM0_1 (Memref.isWhole_whole _) (Memref.isWhole_whole _) (full9 m c) (full10 m c) scM0_2 (Memref.isWhole_whole _) (full11 m c)
  refine (first_entry _ _ _ _ _ _ _ _ h _ _ z i e).trans ?_
  unfold launchAcc launchRow
  exact congrArg₂ (fun p q : EReal => p + q) (congrArg (fun w => product _ w 0 i e) (wo_eq m c)) (bo_eq m c e)

theorem row1_entry (z : Fin 1) (i : Fin 128) (e : Fin 1024) : (row1 m c (ix3 z i e) : EReal)
    = product (launchAcc m c) (m ((c : Thread nD τ).loc main_arg5)) 1 i e + (m ((c : Thread nD τ).loc main_arg6) (ix1 e) : EReal) := by
  unfold row1 runB.sl.r_62 runB.sl.r_63
  rw [readAt_eq, readAt_eq]
  have h := acc_15 c scM0_0 scM0_1 (Memref.isWhole_whole _) (Memref.isWhole_whole _) (full9 m c) (full10 m c) scM0_2 (Memref.isWhole_whole _) (full11 m c)
  refine (second_entry _ _ _ _ _ _ _ _ h _ _ z i e).trans ?_
  unfold launchAcc launchRow
  exact congrArg₂ (fun p q : EReal => p + q) (congrArg (fun w => product _ w 1 i e) (wo_eq m c)) (bo_eq m c e)

/-! ## The result array -/

/-- The result the launch leaves. -/
def resultEntry (z : Fin 2) (p : Fin 2048) (e : Fin 1024) : EReal :=
  product (launchAcc m c) (m ((c : Thread nD τ).loc main_arg5)) z ⟨p.val % 128, by omega⟩ e + (m ((c : Thread nD τ).loc main_arg6) (ix1 e) : EReal)

theorem outBlock_entry (t : Fin cfg0.N) (ht : 8 ≤ t.val) (z : Fin 1) (p : Fin 1024) (e : Fin 1024) :
    (outBlock m c t (ix3 z p e) : EReal) = resultEntry m c ⟨(t.val - 8) / 2, by have := t.isLt; have : cfg0.N = 12 := N_0; omega⟩
      ⟨(t.val - 8) % 2 * 1024 + p.val, by omega⟩ e := by
  have hN : t.val < 12 := lt_of_lt_of_eq t.isLt N_0
  unfold outBlock resultEntry
  rw [stored_entry]
  have hp : (⟨((t.val - 8) % 2 * 1024 + p.val) % 128, by omega⟩ : Fin 128) = ⟨p.val % 128, by omega⟩ :=
    Fin.ext (by show ((t.val - 8) % 2 * 1024 + p.val) % 128 = p.val % 128; omega)
  split
  · rename_i h
    rw [row0_entry, hp, show (⟨(t.val - 8) / 2, by omega⟩ : Fin 2) = 0 from Fin.ext h]
  · rename_i h
    rw [row1_entry, hp, show (⟨(t.val - 8) / 2, by omega⟩ : Fin 2) = 1 from Fin.ext (by show (t.val - 8) / 2 = 1; omega)]

theorem index7 : ∀ t : Fin cfg0.N, 8 ≤ t.val → ∀ a, (cfg0.win 7).index t a = ![(t.val - 8) / 2, (t.val - 8) % 2, 0] a :=
  (by decide +kernel : ∀ t : Fin grid0.N, 8 ≤ t.val → ∀ a, win0_7.index t a = ![(t.val - 8) / 2, (t.val - 8) % 2, 0] a)

theorem covers7 : (cfg0.win 7).Covers := by decide +kernel

theorem entry_congr {z z' : Fin 2} {p p' : Fin 2048} {e e' : Fin 1024} (hz : z = z') (hp : p = p') (he : e = e') :
    resultEntry m c z p e = resultEntry m c z' p' e' := by subst hz hp he; rfl

/-- The result array after the launch. -/
theorem array_eq (y : S2x2048x1024.Idx) : ((dats m 0 c).arrAt 7 cfg0.N y : EReal) = resultEntry m c (y 0) (y 1) (y 2) := by
  refine congrFun ((dats m 0 c).arrAt_eq_of_covers 7 (fun y => resultEntry m c (y 0) (y 1) (y 2)) covers7 ?_) y
  intro t hf y
  have ht : 8 ≤ t.val := by
    by_contra h
    rw [noFlush7_of t (by omega)] at hf
    exact Bool.false_ne_true hf
  rw [after0_7]
  idx_vars y
  have hemb : ∀ a, ((((cfg0.win 7).rect t).emb (ix3 y0 y1 y2) a : Fin _) : ℕ)
      = ![(t.val - 8) / 2, (t.val - 8) % 2, 0] a * S1x1024x1024.size a + (ix3 y0 y1 y2 : S1x1024x1024.Idx) a :=
    fun a => (Pipeline.Window.rect_emb_val (cfg0.win 7) t (ix3 y0 y1 y2) a).trans (congrArg (fun n => n * _ + _) (index7 t ht a))
  refine (outBlock_entry m c t ht y0 y1 y2).trans ?_
  refine entry_congr m c (Fin.ext ?_) (Fin.ext ?_) (Fin.ext ?_)
  · refine Eq.trans ?_ (hemb 0).symm
    show (t.val - 8) / 2 = (t.val - 8) / 2 * 1 + y0.val
    omega
  · exact (hemb 1).symm
  · refine Eq.trans ?_ (hemb 2).symm
    show y2.val = 0 * 1024 + y2.val
    omega

end Cert.KernelIdeal.Value

end
-- ==== Proof.Ref.Ops.lean ====
/-
  The reference's straight line of host operations, in five stretches: the projections; their sixteen copies; the
  correlation through the Fourier tables; the largest lags and their weights; the weighted sum and the output product.
-/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The projections of the three operands. -/
abbrev opsA : List (HloOp τ sig (Elt F)) :=
  [ binary main_arg0 main_arg3 main_v0 ((fun l r => Host.dotGeneral dot_S2x2048x1024_S1024x64_S2x2048x64_2_0_01_1_n_n none l r) : (⟨S2x2048x1024, .f32⟩ : BufTy).Contents (Elt F) → (⟨S1024x64, .f32⟩ : BufTy).Contents (Elt F) → (⟨S2x2048x64, .f32⟩ : BufTy).Contents (Elt F)),
    unary main_arg4 main_v1 (broadcastInDim S1x1x64 ![2] bcast_S64_S1x1x64_2 : (⟨S64, .f32⟩ : BufTy).Contents (Elt F) → (⟨S1x1x64, .f32⟩ : BufTy).Contents (Elt F)),
    unary main_v1 main_v2 (broadcastInDim S2x2048x64 ![0, 1, 2] bcast_S1x1x64_S2x2048x64_0_1_2 : (⟨S1x1x64, .f32⟩ : BufTy).Contents (Elt F) → (⟨S2x2048x64, .f32⟩ : BufTy).Contents (Elt F)),
    binary main_v0 main_v2 main_v3 (addf : (⟨S2x2048x64, .f32⟩ : BufTy).Contents (Elt F) → (⟨S2x2048x64, .f32⟩ : BufTy).Contents (Elt F) → (⟨S2x2048x64, .f32⟩ : BufTy).Contents (Elt F)),
    binary main_arg1 main_arg3 main_v4 ((fun l r => Host.dotGeneral dot_S2x2048x1024_S1024x64_S2x2048x64_2_0_01_1_n_n none l r) : (⟨S2x2048x1024, .f32⟩ : BufTy).Contents (Elt F) → (⟨S1024x64, .f32⟩ : BufTy).Contents (Elt F) → (⟨S2x2048x64, .f32⟩ : BufTy).Contents (Elt F)),
    unary main_arg4 main_v5 (broadcastInDim S1x1x64 ![2] bcast_S64_S1x1x64_2 : (⟨S64, .f32⟩ : BufTy).Contents (Elt F) → (⟨S1x1x64, .f32⟩ : BufTy).Contents (Elt F)),
    unary main_v5 main_v6 (broadcastInDim S2x2048x64 ![0, 1, 2] bcast_S1x1x64_S2x2048x64_0_1_2 : (⟨S1x1x64, .f32⟩ : BufTy).Contents (Elt F) → (⟨S2x2048x64, .f32⟩ : BufTy).Contents (Elt F)),
    binary main_v4 main_v6 main_v7 (addf : (⟨S2x2048x64, .f32⟩ : BufTy).Contents (Elt F) → (⟨S2x2048x64, .f32⟩ : BufTy).Contents (Elt F) → (⟨S2x2048x64, .f32⟩ : BufTy).Contents (Elt F)),
    binary main_arg2 main_arg3 main_v8 ((fun l r => Host.dotGeneral dot_S2x2048x1024_S1024x64_S2x2048x64_2_0_01_1_n_n none l r) : (⟨S2x2048x1024, .f32⟩ : BufTy).Contents (Elt F) → (⟨S1024x64, .f32⟩ : BufTy).Contents (Elt F) → (⟨S2x2048x64, .f32⟩ : BufTy).Contents (Elt F)),
    unary main_arg4 main_v9 (broadcastInDim S1x1x64 ![2] bcast_S64_S1x1x64_2 : (⟨S64, .f32⟩ : BufTy).Contents (Elt F) → (⟨S1x1x64, .f32⟩ : BufTy).Contents (Elt F)),
    unary main_v9 main_v10 (broadcastInDim S2x2048x64 ![0, 1, 2] bcast_S1x1x64_S2x2048x64_0_1_2 : (⟨S1x1x64, .f32⟩ : BufTy).Contents (Elt F) → (⟨S2x2048x64, .f32⟩ : BufTy).Contents (Elt F)),
    binary main_v8 main_v10 main_v11 (addf : (⟨S2x2048x64, .f32⟩ : BufTy).Contents (Elt F) → (⟨S2x2048x64, .f32⟩ : BufTy).Contents (Elt F) → (⟨S2x2048x64, .f32⟩ : BufTy).Contents (Elt F)) ]

/-- Their copies over the heads, transposed. -/
abbrev opsB : List (HloOp τ sig (Elt F)) :=
  [ unary main_v3 main_v12 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v13 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v14 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v15 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v16 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v17 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v18 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v19 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v20 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v21 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v22 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v23 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v24 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v25 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v26 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v3 main_v27 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    nary ![main_v12, main_v13, main_v14, main_v15, main_v16, main_v17, main_v18, main_v19, main_v20, main_v21, main_v22, main_v23, main_v24, main_v25, main_v26, main_v27] main_v28 (fun u => (concatenate S2x16x2048x64 1 [⟨S2x1x2048x64, (u 0 : (⟨S2x1x2048x64, .f32⟩ : BufTy).Contents (Elt F))⟩, ⟨S2x1x2048x64, (u 1 : (⟨S2x1x2048x64, .f32⟩ : BufTy).Contents (Elt F))⟩, ⟨S2x1x2048x64, (u 2 : (⟨S2x1x2048x64, .f32⟩ : BufTy).Contents (Elt F))⟩, ⟨S2x1x2048x64, (u 3 : (⟨S2x1x2048x64, .f32⟩ : BufTy).Contents (Elt F))⟩, ⟨S2x1x2048x64, (u 4 : (⟨S2x1x2048x64, .f32⟩ : BufTy).Contents (Elt F))⟩, ⟨S2x1x2048x64, (u 5 : (⟨S2x1x2048x64, .f32⟩ : BufTy).Contents (Elt F))⟩, ⟨S2x1x2048x64, (u 6 : (⟨S2x1x2048x64, .f32⟩ : BufTy).Contents (Elt F))⟩, ⟨S2x1x2048x64, (u 7 : (⟨S2x1x2048x64, .f32⟩ : BufTy).Contents (Elt F))⟩, ⟨S2x1x2048x64, (u 8 : (⟨S2x1x2048x64, .f32⟩ : BufTy).Contents (Elt F))⟩, ⟨S2x1x2048x64, (u 9 : (⟨S2x1x2048x64, .f32⟩ : BufTy).Contents (Elt F))⟩, ⟨S2x1x2048x64, (u 10 : (⟨S2x1x2048x64, .f32⟩ : BufTy).Contents (Elt F))⟩, ⟨S2x1x2048x64, (u 11 : (⟨S2x1x2048x64, .f32⟩ : BufTy).Contents (Elt F))⟩, ⟨S2x1x2048x64, (u 12 : (⟨S2x1x2048x64, .f32⟩ : BufTy).Contents (Elt F))⟩, ⟨S2x1x2048x64, (u 13 : (⟨S2x1x2048x64, .f32⟩ : BufTy).Contents (Elt F))⟩, ⟨S2x1x2048x64, (u 14 : (⟨S2x1x2048x64, .f32⟩ : BufTy).Contents (Elt F))⟩, ⟨S2x1x2048x64, (u 15 : (⟨S2x1x2048x64, .f32⟩ : BufTy).Contents (Elt F))⟩] concatenates_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x16x2048x64_d1 : (⟨S2x16x2048x64, .f32⟩ : BufTy).Contents (Elt F))),
    unary main_v7 main_v29 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v30 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v31 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v32 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v33 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v34 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v35 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v36 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v37 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v38 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v39 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v40 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v41 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v42 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v43 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v7 main_v44 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    nary ![main_v29, main_v30, main_v31, main_v32, main_v33, main_v34, main_v35, main_v36, main_v37, main_v38, main_v39, main_v40, main_v41, main_v42, main_v43, main_v44] main_v45 (fun u => (concatenate S2x16x2048x64 1 [⟨S2x1x2048x64, (u 0 : (⟨S2x1x2048x64, .f32⟩ : BufTy).Contents (Elt F))⟩, ⟨S2x1x2048x64, (u 1 : (⟨S2x1x2048x64, .f32⟩ : BufTy).Contents (Elt F))⟩, ⟨S2x1x2048x64, (u 2 : (⟨S2x1x2048x64, .f32⟩ : BufTy).Contents (Elt F))⟩, ⟨S2x1x2048x64, (u 3 : (⟨S2x1x2048x64, .f32⟩ : BufTy).Contents (Elt F))⟩, ⟨S2x1x2048x64, (u 4 : (⟨S2x1x2048x64, .f32⟩ : BufTy).Contents (Elt F))⟩, ⟨S2x1x2048x64, (u 5 : (⟨S2x1x2048x64, .f32⟩ : BufTy).Contents (Elt F))⟩, ⟨S2x1x2048x64, (u 6 : (⟨S2x1x2048x64, .f32⟩ : BufTy).Contents (Elt F))⟩, ⟨S2x1x2048x64, (u 7 : (⟨S2x1x2048x64, .f32⟩ : BufTy).Contents (Elt F))⟩, ⟨S2x1x2048x64, (u 8 : (⟨S2x1x2048x64, .f32⟩ : BufTy).Contents (Elt F))⟩, ⟨S2x1x2048x64, (u 9 : (⟨S2x1x2048x64, .f32⟩ : BufTy).Contents (Elt F))⟩, ⟨S2x1x2048x64, (u 10 : (⟨S2x1x2048x64, .f32⟩ : BufTy).Contents (Elt F))⟩, ⟨S2x1x2048x64, (u 11 : (⟨S2x1x2048x64, .f32⟩ : BufTy).Contents (Elt F))⟩, ⟨S2x1x2048x64, (u 12 : (⟨S2x1x2048x64, .f32⟩ : BufTy).Contents (Elt F))⟩, ⟨S2x1x2048x64, (u 13 : (⟨S2x1x2048x64, .f32⟩ : BufTy).Contents (Elt F))⟩, ⟨S2x1x2048x64, (u 14 : (⟨S2x1x2048x64, .f32⟩ : BufTy).Contents (Elt F))⟩, ⟨S2x1x2048x64, (u 15 : (⟨S2x1x2048x64, .f32⟩ : BufTy).Contents (Elt F))⟩] concatenates_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x16x2048x64_d1 : (⟨S2x16x2048x64, .f32⟩ : BufTy).Contents (Elt F))),
    unary main_v11 main_v46 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v47 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v48 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v49 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v50 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v51 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v52 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v53 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v54 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v55 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v56 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v57 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v58 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v59 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v60 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    unary main_v11 main_v61 (broadcastInDim S2x1x2048x64 ![0, 2, 3] bcast_S2x2048x64_S2x1x2048x64_0_2_3 : (⟨S2x2048x64, .f32⟩ : BufTy).Contents (Elt F) → (⟨S2x1x2048x64, .f32⟩ : BufTy).Contents (Elt F)),
    nary ![main_v46, main_v47, main_v48, main_v49, main_v50, main_v51, main_v52, main_v53, main_v54, main_v55, main_v56, main_v57, main_v58, main_v59, main_v60, main_v61] main_v62 (fun u => (concatenate S2x16x2048x64 1 [⟨S2x1x2048x64, (u 0 : (⟨S2x1x2048x64, .f32⟩ : BufTy).Contents (Elt F))⟩, ⟨S2x1x2048x64, (u 1 : (⟨S2x1x2048x64, .f32⟩ : BufTy).Contents (Elt F))⟩, ⟨S2x1x2048x64, (u 2 : (⟨S2x1x2048x64, .f32⟩ : BufTy).Contents (Elt F))⟩, ⟨S2x1x2048x64, (u 3 : (⟨S2x1x2048x64, .f32⟩ : BufTy).Contents (Elt F))⟩, ⟨S2x1x2048x64, (u 4 : (⟨S2x1x2048x64, .f32⟩ : BufTy).Contents (Elt F))⟩, ⟨S2x1x2048x64, (u 5 : (⟨S2x1x2048x64, .f32⟩ : BufTy).Contents (Elt F))⟩, ⟨S2x1x2048x64, (u 6 : (⟨S2x1x2048x64, .f32⟩ : BufTy).Contents (Elt F))⟩, ⟨S2x1x2048x64, (u 7 : (⟨S2x1x2048x64, .f32⟩ : BufTy).Contents (Elt F))⟩, ⟨S2x1x2048x64, (u 8 : (⟨S2x1x2048x64, .f32⟩ : BufTy).Contents (Elt F))⟩, ⟨S2x1x2048x64, (u 9 : (⟨S2x1x2048x64, .f32⟩ : BufTy).Contents (Elt F))⟩, ⟨S2x1x2048x64, (u 10 : (⟨S2x1x2048x64, .f32⟩ : BufTy).Contents (Elt F))⟩, ⟨S2x1x2048x64, (u 11 : (⟨S2x1x2048x64, .f32⟩ : BufTy).Contents (Elt F))⟩, ⟨S2x1x2048x64, (u 12 : (⟨S2x1x2048x64, .f32⟩ : BufTy).Contents (Elt F))⟩, ⟨S2x1x2048x64, (u 13 : (⟨S2x1x2048x64, .f32⟩ : BufTy).Contents (Elt F))⟩, ⟨S2x1x2048x64, (u 14 : (⟨S2x1x2048x64, .f32⟩ : BufTy).Contents (Elt F))⟩, ⟨S2x1x2048x64, (u 15 : (⟨S2x1x2048x64, .f32⟩ : BufTy).Contents (Elt F))⟩] concatenates_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x16x2048x64_d1 : (⟨S2x16x2048x64, .f32⟩ : BufTy).Contents (Elt F))),
    unary main_v28 main_v63 ((transpose S2x16x64x2048 [0, 1, 3, 2] · transposes_S2x16x2048x64_S2x16x64x2048_0_1_3_2) : (⟨S2x16x2048x64, .f32⟩ : BufTy).Contents (Elt F) → (⟨S2x16x64x2048, .f32⟩ : BufTy).Contents (Elt F)),
    unary main_v45 main_v64 ((transpose S2x16x64x2048 [0, 1, 3, 2] · transposes_S2x16x2048x64_S2x16x64x2048_0_1_3_2) : (⟨S2x16x2048x64, .f32⟩ : BufTy).Contents (Elt F) → (⟨S2x16x64x2048, .f32⟩ : BufTy).Contents (Elt F)),
    unary main_v62 main_v65 ((transpose S2x16x64x2048 [0, 1, 3, 2] · transposes_S2x16x2048x64_S2x16x64x2048_0_1_3_2) : (⟨S2x16x2048x64, .f32⟩ : BufTy).Contents (Elt F) → (⟨S2x16x64x2048, .f32⟩ : BufTy).Contents (Elt F)) ]

/-- The correlation over the lags. -/
abbrev opsC : List (HloOp τ sig (Elt F)) :=
  [ nullary main_v66 (iotaInDim S2048 32 0),
    unary main_v66 main_v67 (broadcastInDim S2048x1 ![0] bcast_S2048_S2048x1_0 : (⟨S2048, .i32⟩ : BufTy).Contents (Elt F) → (⟨S2048x1, .i32⟩ : BufTy).Contents (Elt F)),
    unary main_v66 main_v68 (broadcastInDim S1x2048 ![1] bcast_S2048_S1x2048_1 : (⟨S2048, .i32⟩ : BufTy).Contents (Elt F) → (⟨S1x2048, .i32⟩ : BufTy).Contents (Elt F)),
    unary main_v67 main_v69 (broadcastInDim S2048x2048 ![0, 1] bcast_S2048x1_S2048x2048_0_1 : (⟨S2048x1, .i32⟩ : BufTy).Contents (Elt F) → (⟨S2048x2048, .i32⟩ : BufTy).Contents (Elt F)),
    unary main_v68 main_v70 (broadcastInDim S2048x2048 ![0, 1] bcast_S1x2048_S2048x2048_0_1 : (⟨S1x2048, .i32⟩ : BufTy).Contents (Elt F) → (⟨S2048x2048, .i32⟩ : BufTy).Contents (Elt F)),
    binary main_v69 main_v70 main_v71 (muli : (⟨S2048x2048, .i32⟩ : BufTy).Contents (Elt F) → (⟨S2048x2048, .i32⟩ : BufTy).Contents (Elt F) → (⟨S2048x2048, .i32⟩ : BufTy).Contents (Elt F)),
    nullary main_c (constantI S_ 32 2048#32),
    unary main_c main_v72 (broadcastInDim S2048x2048 ![] bcast_S_S2048x2048 : (⟨S_, .i32⟩ : BufTy).Contents (Elt F) → (⟨S2048x2048, .i32⟩ : BufTy).Contents (Elt F)),
    binary main_v71 main_v72 main_v73 (Host.remsi : (⟨S2048x2048, .i32⟩ : BufTy).Contents (Elt F) → (⟨S2048x2048, .i32⟩ : BufTy).Contents (Elt F) → (⟨S2048x2048, .i32⟩ : BufTy).Contents (Elt F)),
    unary main_v73 main_v74 (sitofp .f32 : (⟨S2048x2048, .i32⟩ : BufTy).Contents (Elt F) → (⟨S2048x2048, .f32⟩ : BufTy).Contents (Elt F)),
    nullary main_cst (constant S_ .f32 0x00000000#32),
    nullary main_cst_0 (constant S_ .f32 0xBF800000#32),
    binary main_cst main_cst_0 main_v75 (Host.atan2 : (⟨S_, .f32⟩ : BufTy).Contents (Elt F) → (⟨S_, .f32⟩ : BufTy).Contents (Elt F) → (⟨S_, .f32⟩ : BufTy).Contents (Elt F)),
    nullary main_cst_1 (constant S_ .f32 0x40000000#32),
    binary main_cst_1 main_v75 main_v76 (mulf : (⟨S_, .f32⟩ : BufTy).Contents (Elt F) → (⟨S_, .f32⟩ : BufTy).Contents (Elt F) → (⟨S_, .f32⟩ : BufTy).Contents (Elt F)),
    nullary main_cst_2 (constant S_ .f32 0x45000000#32),
    binary main_v76 main_cst_2 main_v77 (Host.divf : (⟨S_, .f32⟩ : BufTy).Contents (Elt F) → (⟨S_, .f32⟩ : BufTy).Contents (Elt F) → (⟨S_, .f32⟩ : BufTy).Contents (Elt F)),
    unary main_v77 main_v78 (broadcastInDim S2048x2048 ![] bcast_S_S2048x2048 : (⟨S_, .f32⟩ : BufTy).Contents (Elt F) → (⟨S2048x2048, .f32⟩ : BufTy).Contents (Elt F)),
    binary main_v74 main_v78 main_v79 (mulf : (⟨S2048x2048, .f32⟩ : BufTy).Contents (Elt F) → (⟨S2048x2048, .f32⟩ : BufTy).Contents (Elt F) → (⟨S2048x2048, .f32⟩ : BufTy).Contents (Elt F)),
    unary main_v79 main_v80 (Host.cos : (⟨S2048x2048, .f32⟩ : BufTy).Contents (Elt F) → (⟨S2048x2048, .f32⟩ : BufTy).Contents (Elt F)),
    unary main_v79 main_v81 (Host.sin : (⟨S2048x2048, .f32⟩ : BufTy).Contents (Elt F) → (⟨S2048x2048, .f32⟩ : BufTy).Contents (Elt F)),
    binary main_v63 main_v80 main_v82 ((fun l r => Host.dotGeneral dot_S2x16x64x2048_S2048x2048_S2x16x64x2048_3_0_012_1_n_n none l r) : (⟨S2x16x64x2048, .f32⟩ : BufTy).Contents (Elt F) → (⟨S2048x2048, .f32⟩ : BufTy).Contents (Elt F) → (⟨S2x16x64x2048, .f32⟩ : BufTy).Contents (Elt F)),
    binary main_v63 main_v81 main_v83 ((fun l r => Host.dotGeneral dot_S2x16x64x2048_S2048x2048_S2x16x64x2048_3_0_012_1_n_n none l r) : (⟨S2x16x64x2048, .f32⟩ : BufTy).Contents (Elt F) → (⟨S2048x2048, .f32⟩ : BufTy).Contents (Elt F) → (⟨S2x16x64x2048, .f32⟩ : BufTy).Contents (Elt F)),
    unary main_v83 main_v84 (Host.negf : (⟨S2x16x64x2048, .f32⟩ : BufTy).Contents (Elt F) → (⟨S2x16x64x2048, .f32⟩ : BufTy).Contents (Elt F)),
    binary main_v64 main_v80 main_v85 ((fun l r => Host.dotGeneral dot_S2x16x64x2048_S2048x2048_S2x16x64x2048_3_0_012_1_n_n none l r) : (⟨S2x16x64x2048, .f32⟩ : BufTy).Contents (Elt F) → (⟨S2048x2048, .f32⟩ : BufTy).Contents (Elt F) → (⟨S2x16x64x2048, .f32⟩ : BufTy).Contents (Elt F)),
    binary main_v64 main_v81 main_v86 ((fun l r => Host.dotGeneral dot_S2x16x64x2048_S2048x2048_S2x16x64x2048_3_0_012_1_n_n none l r) : (⟨S2x16x64x2048, .f32⟩ : BufTy).Contents (Elt F) → (⟨S2048x2048, .f32⟩ : BufTy).Contents (Elt F) → (⟨S2x16x64x2048, .f32⟩ : BufTy).Contents (Elt F)),
    unary main_v86 main_v87 (Host.negf : (⟨S2x16x64x2048, .f32⟩ : BufTy).Contents (Elt F) → (⟨S2x16x64x2048, .f32⟩ : BufTy).Contents (Elt F)),
    binary main_v82 main_v85 main_v88 (mulf : (⟨S2x16x64x2048, .f32⟩ : BufTy).Contents (Elt F) → (⟨S2x16x64x2048, .f32⟩ : BufTy).Contents (Elt F) → (⟨S2x16x64x2048, .f32⟩ : BufTy).Contents (Elt F)),
    binary main_v84 main_v87 main_v89 (mulf : (⟨S2x16x64x2048, .f32⟩ : BufTy).Contents (Elt F) → (⟨S2x16x64x2048, .f32⟩ : BufTy).Contents (Elt F) → (⟨S2x16x64x2048, .f32⟩ : BufTy).Contents (Elt F)),
    binary main_v88 main_v89 main_v90 (addf : (⟨S2x16x64x2048, .f32⟩ : BufTy).Contents (Elt F) → (⟨S2x16x64x2048, .f32⟩ : BufTy).Contents (Elt F) → (⟨S2x16x64x2048, .f32⟩ : BufTy).Contents (Elt F)),
    binary main_v84 main_v85 main_v91 (mulf : (⟨S2x16x64x2048, .f32⟩ : BufTy).Contents (Elt F) → (⟨S2x16x64x2048, .f32⟩ : BufTy).Contents (Elt F) → (⟨S2x16x64x2048, .f32⟩ : BufTy).Contents (Elt F)),
    binary main_v82 main_v87 main_v92 (mulf : (⟨S2x16x64x2048, .f32⟩ : BufTy).Contents (Elt F) → (⟨S2x16x64x2048, .f32⟩ : BufTy).Contents (Elt F) → (⟨S2x16x64x2048, .f32⟩ : BufTy).Contents (Elt F)),
    binary main_v91 main_v92 main_v93 (subf : (⟨S2x16x64x2048, .f32⟩ : BufTy).Contents (Elt F) → (⟨S2x16x64x2048, .f32⟩ : BufTy).Contents (Elt F) → (⟨S2x16x64x2048, .f32⟩ : BufTy).Contents (Elt F)),
    binary main_v90 main_v80 main_v94 ((fun l r => Host.dotGeneral dot_S2x16x64x2048_S2048x2048_S2x16x64x2048_3_0_012_1_n_n none l r) : (⟨S2x16x64x2048, .f32⟩ : BufTy).Contents (Elt F) → (⟨S2048x2048, .f32⟩ : BufTy).Contents (Elt F) → (⟨S2x16x64x2048, .f32⟩ : BufTy).Contents (Elt F)),
    binary main_v93 main_v81 main_v95 ((fun l r => Host.dotGeneral dot_S2x16x64x2048_S2048x2048_S2x16x64x2048_3_0_012_1_n_n none l r) : (⟨S2x16x64x2048, .f32⟩ : BufTy).Contents (Elt F) → (⟨S2048x2048, .f32⟩ : BufTy).Contents (Elt F) → (⟨S2x16x64x2048, .f32⟩ : BufTy).Contents (Elt F)),
    binary main_v94 main_v95 main_v96 (subf : (⟨S2x16x64x2048, .f32⟩ : BufTy).Contents (Elt F) → (⟨S2x16x64x2048, .f32⟩ : BufTy).Contents (Elt F) → (⟨S2x16x64x2048, .f32⟩ : BufTy).Contents (Elt F)),
    nullary main_cst_3 (constant S_ .f32 0x45000000#32),
    unary main_cst_3 main_v97 (broadcastInDim S2x16x64x2048 ![] bcast_S_S2x16x64x2048 : (⟨S_, .f32⟩ : BufTy).Contents (Elt F) → (⟨S2x16x64x2048, .f32⟩ : BufTy).Contents (Elt F)),
    binary main_v96 main_v97 main_v98 (Host.divf : (⟨S2x16x64x2048, .f32⟩ : BufTy).Contents (Elt F) → (⟨S2x16x64x2048, .f32⟩ : BufTy).Contents (Elt F) → (⟨S2x16x64x2048, .f32⟩ : BufTy).Contents (Elt F)),
    nullary main_cst_4 (constant S_ .f32 0x00000000#32),
    binary main_v98 main_cst_4 main_v99 ((fun x v => Host.reduceAdd x v reducesTo_S2x16x64x2048_S2048_d0_1_2 h_S_) : (⟨S2x16x64x2048, .f32⟩ : BufTy).Contents (Elt F) → (⟨S_, .f32⟩ : BufTy).Contents (Elt F) → (⟨S2048, .f32⟩ : BufTy).Contents (Elt F)),
    nullary main_cst_5 (constant S_ .f32 0x45000000#32),
    unary main_cst_5 main_v100 (broadcastInDim S2048 ![] bcast_S_S2048 : (⟨S_, .f32⟩ : BufTy).Contents (Elt F) → (⟨S2048, .f32⟩ : BufTy).Contents (Elt F)),
    binary main_v99 main_v100 main_v101 (Host.divf : (⟨S2048, .f32⟩ : BufTy).Contents (Elt F) → (⟨S2048, .f32⟩ : BufTy).Contents (Elt F) → (⟨S2048, .f32⟩ : BufTy).Contents (Elt F)),
    reshape main_v101 main_v102 (rfl : (.f32 : EltTy) = .f32) shapeCasts_S2048_S1x2048 ]

/-- The largest lags and their weights. -/
abbrev opsD : List (HloOp τ sig (Elt F)) :=
  [ unary main_v102 main_values ((fun x => (Host.topK S1x15 1 (FloatOps.cmpfTotal .gt) x sliceFits_S1x2048_S1x15).1) : (⟨S1x2048, .f32⟩ : BufTy).Contents (Elt F) → (⟨S1x15, .f32⟩ : BufTy).Contents (Elt F)),
    unary main_v102 main_indices ((fun x => (Host.topK S1x15 1 (FloatOps.cmpfTotal .gt) x sliceFits_S1x2048_S1x15).2) : (⟨S1x2048, .f32⟩ : BufTy).Contents (Elt F) → (⟨S1x15, .i32⟩ : BufTy).Contents (Elt F)),
    nullary main_cst_6 (constant S_ .f32 0xFF800000#32),
    binary main_values main_cst_6 main_v103 ((fun x v => Host.reduce FloatOps.maximumf x v reducesTo_S1x15_S1_d1 h_S_) : (⟨S1x15, .f32⟩ : BufTy).Contents (Elt F) → (⟨S_, .f32⟩ : BufTy).Contents (Elt F) → (⟨S1, .f32⟩ : BufTy).Contents (Elt F)),
    nullary main_cst_7 (constant S_ .f32 0xFF800000#32),
    unary main_cst_7 main_v104 (broadcastInDim S1 ![] bcast_S_S1 : (⟨S_, .f32⟩ : BufTy).Contents (Elt F) → (⟨S1, .f32⟩ : BufTy).Contents (Elt F)),
    binary main_v104 main_v103 main_v105 (maximumf : (⟨S1, .f32⟩ : BufTy).Contents (Elt F) → (⟨S1, .f32⟩ : BufTy).Contents (Elt F) → (⟨S1, .f32⟩ : BufTy).Contents (Elt F)),
    unary main_v105 main_v106 (broadcastInDim S1x1 ![0] bcast_S1_S1x1_0 : (⟨S1, .f32⟩ : BufTy).Contents (Elt F) → (⟨S1x1, .f32⟩ : BufTy).Contents (Elt F)),
    unary main_v106 main_v107 (broadcastInDim S1x15 ![0, 1] bcast_S1x1_S1x15_0_1 : (⟨S1x1, .f32⟩ : BufTy).Contents (Elt F) → (⟨S1x15, .f32⟩ : BufTy).Contents (Elt F)),
    binary main_values main_v107 main_v108 (subf : (⟨S1x15, .f32⟩ : BufTy).Contents (Elt F) → (⟨S1x15, .f32⟩ : BufTy).Contents (Elt F) → (⟨S1x15, .f32⟩ : BufTy).Contents (Elt F)),
    unary main_v108 main_v109 (Host.exp : (⟨S1x15, .f32⟩ : BufTy).Contents (Elt F) → (⟨S1x15, .f32⟩ : BufTy).Contents (Elt F)),
    nullary main_cst_8 (constant S_ .f32 0x00000000#32),
    binary main_v109 main_cst_8 main_v110 ((fun x v => Host.reduceAdd x v reducesTo_S1x15_S1_d1 h_S_) : (⟨S1x15, .f32⟩ : BufTy).Contents (Elt F) → (⟨S_, .f32⟩ : BufTy).Contents (Elt F) → (⟨S1, .f32⟩ : BufTy).Contents (Elt F)),
    unary main_v110 main_v111 (broadcastInDim S1x1 ![0] bcast_S1_S1x1_0 : (⟨S1, .f32⟩ : BufTy).Contents (Elt F) → (⟨S1x1, .f32⟩ : BufTy).Contents (Elt F)),
    unary main_v111 main_v112 (broadcastInDim S1x15 ![0, 1] bcast_S1x1_S1x15_0_1 : (⟨S1x1, .f32⟩ : BufTy).Contents (Elt F) → (⟨S1x15, .f32⟩ : BufTy).Contents (Elt F)),
    binary main_v109 main_v112 main_v113 (Host.divf : (⟨S1x15, .f32⟩ : BufTy).Contents (Elt F) → (⟨S1x15, .f32⟩ : BufTy).Contents (Elt F) → (⟨S1x15, .f32⟩ : BufTy).Contents (Elt F)) ]

/-- The weighted sum of rotations and the output product. -/
abbrev opsE : List (HloOp τ sig (Elt F)) :=
  [ nullary main_v114 (iotaInDim S2048 32 0),
    reshape main_indices main_v115 (rfl : (.i32 : EltTy) = .i32) shapeCasts_S1x15_S15,
    unary main_v115 main_v116 (broadcastInDim S15x1 ![0] bcast_S15_S15x1_0 : (⟨S15, .i32⟩ : BufTy).Contents (Elt F) → (⟨S15x1, .i32⟩ : BufTy).Contents (Elt F)),
    unary main_v114 main_v117 (broadcastInDim S1x2048 ![1] bcast_S2048_S1x2048_1 : (⟨S2048, .i32⟩ : BufTy).Contents (Elt F) → (⟨S1x2048, .i32⟩ : BufTy).Contents (Elt F)),
    unary main_v116 main_v118 (broadcastInDim S15x2048 ![0, 1] bcast_S15x1_S15x2048_0_1 : (⟨S15x1, .i32⟩ : BufTy).Contents (Elt F) → (⟨S15x2048, .i32⟩ : BufTy).Contents (Elt F)),
    unary main_v117 main_v119 (broadcastInDim S15x2048 ![0, 1] bcast_S1x2048_S15x2048_0_1 : (⟨S1x2048, .i32⟩ : BufTy).Contents (Elt F) → (⟨S15x2048, .i32⟩ : BufTy).Contents (Elt F)),
    binary main_v118 main_v119 main_v120 (addi : (⟨S15x2048, .i32⟩ : BufTy).Contents (Elt F) → (⟨S15x2048, .i32⟩ : BufTy).Contents (Elt F) → (⟨S15x2048, .i32⟩ : BufTy).Contents (Elt F)),
    nullary main_c_9 (constantI S_ 32 2048#32),
    unary main_c_9 main_v121 (broadcastInDim S15x2048 ![] bcast_S_S15x2048 : (⟨S_, .i32⟩ : BufTy).Contents (Elt F) → (⟨S15x2048, .i32⟩ : BufTy).Contents (Elt F)),
    binary main_v120 main_v121 main_v122 (Host.remsi : (⟨S15x2048, .i32⟩ : BufTy).Contents (Elt F) → (⟨S15x2048, .i32⟩ : BufTy).Contents (Elt F) → (⟨S15x2048, .i32⟩ : BufTy).Contents (Elt F)),
    StableHlo.TRef.unary (.of main_v122 : StableHlo.TRef sig ⟨S15x2048, .i32⟩) main_call0.v0 (broadcastInDim S15x2048x1 ![0, 1] bcast_S15x2048_S15x2048x1_0_1),
    StableHlo.TRef.binary (.of main_v65 : StableHlo.TRef sig ⟨S2x16x64x2048, .f32⟩) main_call0.v0 main_call0.v1 (fun x i => Host.gather gather_S2x16x64x2048_S15x2048x1_S2x16x64x15x2048_012_3_n_n_3_2_216641 x i),
    reshape main_v113 main_v124 (rfl : (.f32 : EltTy) = .f32) shapeCasts_S1x15_S15,
    unary main_v124 main_v125 (broadcastInDim S15x1 ![0] bcast_S15_S15x1_0 : (⟨S15, .f32⟩ : BufTy).Contents (Elt F) → (⟨S15x1, .f32⟩ : BufTy).Contents (Elt F)),
    unary main_v125 main_v126 (broadcastInDim S1x1x1x15x1 ![3, 4] bcast_S15x1_S1x1x1x15x1_3_4 : (⟨S15x1, .f32⟩ : BufTy).Contents (Elt F) → (⟨S1x1x1x15x1, .f32⟩ : BufTy).Contents (Elt F)),
    unary main_v126 main_v127 (broadcastInDim S2x16x64x15x2048 ![0, 1, 2, 3, 4] bcast_S1x1x1x15x1_S2x16x64x15x2048_0_1_2_3_4 : (⟨S1x1x1x15x1, .f32⟩ : BufTy).Contents (Elt F) → (⟨S2x16x64x15x2048, .f32⟩ : BufTy).Contents (Elt F)),
    binary main_v123 main_v127 main_v128 (mulf : (⟨S2x16x64x15x2048, .f32⟩ : BufTy).Contents (Elt F) → (⟨S2x16x64x15x2048, .f32⟩ : BufTy).Contents (Elt F) → (⟨S2x16x64x15x2048, .f32⟩ : BufTy).Contents (Elt F)),
    nullary main_cst_10 (constant S_ .f32 0x00000000#32),
    binary main_v128 main_cst_10 main_v129 ((fun x v => Host.reduceAdd x v reducesTo_S2x16x64x15x2048_S2x16x64x2048_d3 h_S_) : (⟨S2x16x64x15x2048, .f32⟩ : BufTy).Contents (Elt F) → (⟨S_, .f32⟩ : BufTy).Contents (Elt F) → (⟨S2x16x64x2048, .f32⟩ : BufTy).Contents (Elt F)),
    reshape main_v129 main_v130 (rfl : (.f32 : EltTy) = .f32) shapeCasts_S2x16x64x2048_S2x2048x1024,
    binary main_v130 main_arg5 main_v131 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
    unary main_arg6 main_v132 (broadcastInDim S1x1x1024 ![2] bcast_S1024_S1x1x1024_2 : (⟨S1024, .f32⟩ : BufTy).Contents (Elt F) → (⟨S1x1x1024, .f32⟩ : BufTy).Contents (Elt F)),
    unary main_v132 main_v133 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
    binary main_v131 main_v133 main_v134 (addf : (⟨S2x2048x1024, .f32⟩ : BufTy).Contents (Elt F) → (⟨S2x2048x1024, .f32⟩ : BufTy).Contents (Elt F) → (⟨S2x2048x1024, .f32⟩ : BufTy).Contents (Elt F)) ]

/-- That stretch touches TensorCore references only. -/
theorem subA : (opsA : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub ..⟩

/-- What that stretch writes. -/
theorem writesA : (opsA : List (HloOp τ sig (Elt F))).Forall fun op => op.writes ⊆ (([main_v0, main_v1, main_v2, main_v3, main_v4, main_v5, main_v6, main_v7, main_v8, main_v9, main_v10, main_v11] : List (Ref sig .tc)).map (Proc.devRef (τ := τ) .tc)).toFinset :=
  forall_writes_sub_of_map rfl

/-- That stretch touches TensorCore references only. -/
theorem subB : (opsB : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub ..⟩

/-- What that stretch writes. -/
theorem writesB : (opsB : List (HloOp τ sig (Elt F))).Forall fun op => op.writes ⊆ (([main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65] : List (Ref sig .tc)).map (Proc.devRef (τ := τ) .tc)).toFinset :=
  forall_writes_sub_of_map rfl

/-- That stretch touches TensorCore references only. -/
theorem subC : (opsC : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., binary_bufs_sub .., unary_bufs_sub .., nullary_bufs_sub .., nullary_bufs_sub .., binary_bufs_sub .., nullary_bufs_sub .., binary_bufs_sub .., nullary_bufs_sub .., binary_bufs_sub .., unary_bufs_sub .., binary_bufs_sub .., unary_bufs_sub .., unary_bufs_sub .., binary_bufs_sub .., binary_bufs_sub .., unary_bufs_sub .., binary_bufs_sub .., binary_bufs_sub .., unary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., nullary_bufs_sub .., binary_bufs_sub .., nullary_bufs_sub .., unary_bufs_sub .., binary_bufs_sub .., reshape_bufs_sub ..⟩

/-- What that stretch writes. -/
theorem writesC : (opsC : List (HloOp τ sig (Elt F))).Forall fun op => op.writes ⊆ (([main_v66, main_v67, main_v68, main_v69, main_v70, main_v71, main_c, main_v72, main_v73, main_v74, main_cst, main_cst_0, main_v75, main_cst_1, main_v76, main_cst_2, main_v77, main_v78, main_v79, main_v80, main_v81, main_v82, main_v83, main_v84, main_v85, main_v86, main_v87, main_v88, main_v89, main_v90, main_v91, main_v92, main_v93, main_v94, main_v95, main_v96, main_cst_3, main_v97, main_v98, main_cst_4, main_v99, main_cst_5, main_v100, main_v101, main_v102] : List (Ref sig .tc)).map (Proc.devRef (τ := τ) .tc)).toFinset :=
  forall_writes_sub_of_map rfl

/-- That stretch touches TensorCore references only. -/
theorem subD : (opsD : List (HloOp τ sig (Elt F))).Forall fun op => op.bufs ⊆ tcRefs τ sig :=
  ⟨unary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- What that stretch writes. -/
theorem writesD : (opsD : List (HloOp τ sig (Elt F))).Forall fun op => op.writes ⊆ (([main_values, main_indices, main_cst_6, main_v103, main_cst_7, main_v104, main_v105, main_v106, main_v107, main_v108, main_v109, main_cst_8, main_v110, main_v111, main_v112, main_v113] : List (Ref sig .tc)).map (Proc.devRef (τ := τ) .tc)).toFinset :=
  forall_writes_sub_of_map rfl

/-- That stretch touches TensorCore references only. -/
theorem subE : (opsE : List (HloOp τ sig (Elt F))).Forall fun op => op.bufs ⊆ tcRefs τ sig :=
  ⟨nullary_bufs_sub .., reshape_bufs_sub .., unary_bufs_sub .., unary_bufs_sub .., unary_bufs_sub .., unary_bufs_sub .., binary_bufs_sub .., nullary_bufs_sub .., unary_bufs_sub .., binary_bufs_sub .., unary_bufs_sub .., binary_bufs_sub .., reshape_bufs_sub .., unary_bufs_sub .., unary_bufs_sub .., unary_bufs_sub .., binary_bufs_sub .., nullary_bufs_sub .., binary_bufs_sub .., reshape_bufs_sub .., binary_bufs_sub .., unary_bufs_sub .., unary_bufs_sub .., binary_bufs_sub ..⟩

/-- What that stretch writes. -/
theorem writesE : (opsE : List (HloOp τ sig (Elt F))).Forall fun op => op.writes ⊆ (([main_v114, main_v115, main_v116, main_v117, main_v118, main_v119, main_v120, main_c_9, main_v121, main_v122, main_call0_v0, main_v123, main_v124, main_v125, main_v126, main_v127, main_v128, main_cst_10, main_v129, main_v130, main_v131, main_v132, main_v133, main_v134] : List (Ref sig .tc)).map (Proc.devRef (τ := τ) .tc)).toFinset :=
  forall_writes_sub_of_map rfl

/-- @main's operations, in order. -/
abbrev ops : List (HloOp τ sig (Elt F)) := opsA ++ (opsB ++ (opsC ++ (opsD ++ opsE)))

set_option maxHeartbeats 4000000 in
/-- @main is that straight line. -/
theorem main_eq (c : Dev nD) : main (F := F) c = seq ops := by
  simp only [main, main_part0, main_part1, main_part2, fn_take.body, opsA, opsB, opsC, opsD, opsE, List.cons_append, List.nil_append, seq, bind_assoc, pure_bind]

theorem scopedRefs_eq : (Finset.univ.filter fun b : Ref sig .tc => b.isScoped) = ∅ := by decide +kernel
theorem scopedSems_eq : (Finset.univ.filter fun sm : SemLoc sig => sm.isScoped .tc) = ∅ := by decide +kernel

/-- Every operation touches TensorCore references only. -/
theorem ops_sub : (ops : List (HloOp τ sig (Elt F))).Forall fun op => op.bufs ⊆ tcRefs τ sig := by
  rw [List.forall_iff_forall_mem]
  intro op hop
  simp only [ops, List.mem_append] at hop
  rcases hop with h | h | h | h | h
  · exact (List.forall_iff_forall_mem.mp subA) op h
  · exact (List.forall_iff_forall_mem.mp subB) op h
  · exact (List.forall_iff_forall_mem.mp subC) op h
  · exact (List.forall_iff_forall_mem.mp subD) op h
  · exact (List.forall_iff_forall_mem.mp subE) op h

/-- A fold over two lists is the second's over the first's. -/
theorem after_append (a b : List (HloOp τ sig (Elt F))) (V : Valuation τ sig (Elt F)) : after (a ++ b) V = after b (after a V) := by
  induction a generalizing V with
  | nil => rfl
  | cons x a ih => rw [List.cons_append, after_cons, after_cons, ih]

/-- The line's fold, stretch by stretch. -/
theorem after_ops (V : Valuation τ sig (Elt F)) :
    after ops V = after opsE (after opsD (after opsC (after opsB (after opsA V)))) := by
  simp only [ops, after_append]

/-- No operation writes an argument. -/
theorem arg_eq (V : Valuation τ sig (Elt F)) (b : Ref sig .tc) (hb : b ∈ [main_arg0, main_arg1, main_arg2, main_arg3, main_arg4, main_arg5, main_arg6]) :
    after ops V (Proc.devRef .tc b) = V (Proc.devRef .tc b) := by
  rw [after_ops]
  have hW : ∀ b ∈ [main_arg0, main_arg1, main_arg2, main_arg3, main_arg4, main_arg5, main_arg6], b ∉ ([main_v0, main_v1, main_v2, main_v3, main_v4, main_v5, main_v6, main_v7, main_v8, main_v9, main_v10, main_v11] : List (Ref sig .tc)) ∧ b ∉ ([main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65] : List (Ref sig .tc)) ∧ b ∉ ([main_v66, main_v67, main_v68, main_v69, main_v70, main_v71, main_c, main_v72, main_v73, main_v74, main_cst, main_cst_0, main_v75, main_cst_1, main_v76, main_cst_2, main_v77, main_v78, main_v79, main_v80, main_v81, main_v82, main_v83, main_v84, main_v85, main_v86, main_v87, main_v88, main_v89, main_v90, main_v91, main_v92, main_v93, main_v94, main_v95, main_v96, main_cst_3, main_v97, main_v98, main_cst_4, main_v99, main_cst_5, main_v100, main_v101, main_v102] : List (Ref sig .tc)) ∧ b ∉ ([main_values, main_indices, main_cst_6, main_v103, main_cst_7, main_v104, main_v105, main_v106, main_v107, main_v108, main_v109, main_cst_8, main_v110, main_v111, main_v112, main_v113] : List (Ref sig .tc)) ∧ b ∉ ([main_v114, main_v115, main_v116, main_v117, main_v118, main_v119, main_v120, main_c_9, main_v121, main_v122, main_call0_v0, main_v123, main_v124, main_v125, main_v126, main_v127, main_v128, main_cst_10, main_v129, main_v130, main_v131, main_v132, main_v133, main_v134] : List (Ref sig .tc)) := by decide
  obtain ⟨hA, hB, hC, hD, hE⟩ := hW b hb
  rw [after_of_writes_sub _ _ writesE hE, after_of_writes_sub _ _ writesD hD, after_of_writes_sub _ _ writesC hC,
    after_of_writes_sub _ _ writesB hB, after_of_writes_sub _ _ writesA hA]

/-- The reference runs, its result the line's fold, its arguments unchanged and every counter at zero. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ op hop => (List.forall_iff_forall_mem.mp (forall_fresh_of_map (ops := ops) rfl)) op hop)

/-- The reference's frame: its arguments end unchanged, and it declares no counter. -/
theorem frame_quiet (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h c _).trans (arg_eq _ _ (by decide)), (h c _).trans (arg_eq _ _ (by decide)),
    (h c _).trans (arg_eq _ _ (by decide)), (h c _).trans (arg_eq _ _ (by decide)), (h c _).trans (arg_eq _ _ (by decide)),
    (h c _).trans (arg_eq _ _ (by decide)), (h c _).trans (arg_eq _ _ (by decide))⟩,
    Idealize.ShloMosaic.sem_eq_zero_of_no_sems (by decide) r.2⟩) (run_all m ρ)

end Cert.Proof.Ref

end
-- ==== Proof.Ref.Value.lean ====
/-
  What each stretch of the reference leaves, as a function of what it reads.
-/
module

public import proofs.«01_k».proof.Proof.Ref.Ops

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- A projection with its bias. -/
def headProj (x : FVec F S2x2048x1024 .f32) (w : FVec F S1024x64 .f32) (b : FVec F S64 .f32) : FVec F S2x2048x64 .f32 :=
  addf (Host.dotGeneral dot_S2x2048x1024_S1024x64_S2x2048x64_2_0_01_1_n_n none x w)
    (broadcastInDim S2x2048x64 ![0, 1, 2] bcast_S1x1x64_S2x2048x64_0_1_2 (broadcastInDim S1x1x64 ![2] bcast_S64_S1x1x64_2 b))

/-- One head's copy. -/
def copy (q : FVec F S2x2048x64 .f32) : FVec F S2x1x2048x64 .f32 :=
  broadcastInDim S2x1x2048x64 ![0, 2, 3] bcast_S2x2048x64_S2x1x2048x64_0_2_3 q

/-- The sixteen copies, position last. -/
def heads (q : FVec F S2x2048x64 .f32) : FVec F S2x16x64x2048 .f32 :=
  transpose S2x16x64x2048 [0, 1, 3, 2]
    (concatenate S2x16x2048x64 1 [⟨S2x1x2048x64, copy q⟩, ⟨S2x1x2048x64, copy q⟩, ⟨S2x1x2048x64, copy q⟩, ⟨S2x1x2048x64, copy q⟩, ⟨S2x1x2048x64, copy q⟩, ⟨S2x1x2048x64, copy q⟩, ⟨S2x1x2048x64, copy q⟩, ⟨S2x1x2048x64, copy q⟩, ⟨S2x1x2048x64, copy q⟩, ⟨S2x1x2048x64, copy q⟩, ⟨S2x1x2048x64, copy q⟩, ⟨S2x1x2048x64, copy q⟩, ⟨S2x1x2048x64, copy q⟩, ⟨S2x1x2048x64, copy q⟩, ⟨S2x1x2048x64, copy q⟩, ⟨S2x1x2048x64, copy q⟩] concatenates_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x1x2048x64_S2x16x2048x64_d1)
    transposes_S2x16x2048x64_S2x16x64x2048_0_1_3_2

/-- The tables' angles. -/
def angles : FVec F S2048x2048 .f32 :=
  mulf (sitofp .f32 (Host.remsi
      (muli (broadcastInDim S2048x2048 ![0, 1] bcast_S2048x1_S2048x2048_0_1 (broadcastInDim S2048x1 ![0] bcast_S2048_S2048x1_0 (iotaInDim S2048 32 0)))
        (broadcastInDim S2048x2048 ![0, 1] bcast_S1x2048_S2048x2048_0_1 (broadcastInDim S1x2048 ![1] bcast_S2048_S1x2048_1 (iotaInDim S2048 32 0))))
      (broadcastInDim S2048x2048 ![] bcast_S_S2048x2048 (constantI S_ 32 2048#32))))
    (broadcastInDim S2048x2048 ![] bcast_S_S2048x2048
      (Host.divf (mulf (constant S_ .f32 0x40000000#32) (Host.atan2 (constant S_ .f32 0x00000000#32) (constant S_ .f32 0xBF800000#32)))
        (constant S_ .f32 0x45000000#32)))

/-- A product along the positions with a table. -/
def along (q : FVec F S2x16x64x2048 .f32) (a : FVec F S2048x2048 .f32) : FVec F S2x16x64x2048 .f32 :=
  Host.dotGeneral dot_S2x16x64x2048_S2048x2048_S2x16x64x2048_3_0_012_1_n_n none q a

/-- Each head's correlation. -/
def headCorr (q k : FVec F S2x16x64x2048 .f32) : FVec F S2x16x64x2048 .f32 :=
  Host.divf
    (subf
      (along (addf (mulf (along q (Host.cos angles)) (along k (Host.cos angles)))
        (mulf (Host.negf (along q (Host.sin angles))) (Host.negf (along k (Host.sin angles))))) (Host.cos angles))
      (along (subf (mulf (Host.negf (along q (Host.sin angles))) (along k (Host.cos angles)))
        (mulf (along q (Host.cos angles)) (Host.negf (along k (Host.sin angles))))) (Host.sin angles)))
    (broadcastInDim S2x16x64x2048 ![] bcast_S_S2x16x64x2048 (constant S_ .f32 0x45000000#32))

/-- The mean correlation of each lag. -/
def lagCorr (q k : FVec F S2x16x64x2048 .f32) : FVec F S1x2048 .f32 :=
  shapeCast S1x2048
    (Host.divf (Host.reduceAdd (headCorr q k) (constant S_ .f32 0x00000000#32) reducesTo_S2x16x64x2048_S2048_d0_1_2 h_S_)
      (broadcastInDim S2048 ![] bcast_S_S2048 (constant S_ .f32 0x45000000#32)))
    shapeCasts_S2048_S1x2048

/-- The largest correlations. -/
def tops (x : FVec F S1x2048 .f32) : FVec F S1x15 .f32 := (Host.topK S1x15 1 (FloatOps.cmpfTotal .gt) x sliceFits_S1x2048_S1x15).1
/-- Their lags. -/
def lags (x : FVec F S1x2048 .f32) : IVec S1x15 32 := (Host.topK S1x15 1 (FloatOps.cmpfTotal .gt) x sliceFits_S1x2048_S1x15).2

/-- The correlations, less the largest, exponentiated. -/
def expTops (v : FVec F S1x15 .f32) : FVec F S1x15 .f32 :=
  Host.exp (subf v (broadcastInDim S1x15 ![0, 1] bcast_S1x1_S1x15_0_1 (broadcastInDim S1x1 ![0] bcast_S1_S1x1_0
    (maximumf (broadcastInDim S1 ![] bcast_S_S1 (constant S_ .f32 0xFF800000#32))
      (Host.reduce FloatOps.maximumf v (constant S_ .f32 0xFF800000#32) reducesTo_S1x15_S1_d1 h_S_)))))

/-- The weights. -/
def weights (v : FVec F S1x15 .f32) : FVec F S1x15 .f32 :=
  Host.divf (expTops v) (broadcastInDim S1x15 ![0, 1] bcast_S1x1_S1x15_0_1 (broadcastInDim S1x1 ![0] bcast_S1_S1x1_0
    (Host.reduceAdd (expTops v) (constant S_ .f32 0x00000000#32) reducesTo_S1x15_S1_d1 h_S_)))

/-- The rotated positions. -/
def positions (i : IVec S1x15 32) : IVec S15x2048 32 :=
  Host.remsi
    (addi (broadcastInDim S15x2048 ![0, 1] bcast_S15x1_S15x2048_0_1 (broadcastInDim S15x1 ![0] bcast_S15_S15x1_0 (shapeCast S15 i shapeCasts_S1x15_S15)))
      (broadcastInDim S15x2048 ![0, 1] bcast_S1x2048_S15x2048_0_1 (broadcastInDim S1x2048 ![1] bcast_S2048_S1x2048_1 (iotaInDim S2048 32 0))))
    (broadcastInDim S15x2048 ![] bcast_S_S15x2048 (constantI S_ 32 2048#32))

/-- The values at the rotated positions. -/
def rotated (v : FVec F S2x16x64x2048 .f32) (i : IVec S1x15 32) : FVec F S2x16x64x15x2048 .f32 :=
  Host.gather gather_S2x16x64x2048_S15x2048x1_S2x16x64x15x2048_012_3_n_n_3_2_216641 v
    (broadcastInDim S15x2048x1 ![0, 1] bcast_S15x2048_S15x2048x1_0_1 (positions i))

/-- The weighted sum of the rotations. -/
def mixed (v : FVec F S2x16x64x2048 .f32) (i : IVec S1x15 32) (w : FVec F S1x15 .f32) : FVec F S2x16x64x2048 .f32 :=
  Host.reduceAdd (mulf (rotated v i)
      (broadcastInDim S2x16x64x15x2048 ![0, 1, 2, 3, 4] bcast_S1x1x1x15x1_S2x16x64x15x2048_0_1_2_3_4
        (broadcastInDim S1x1x1x15x1 ![3, 4] bcast_S15x1_S1x1x1x15x1_3_4 (broadcastInDim S15x1 ![0] bcast_S15_S15x1_0 (shapeCast S15 w shapeCasts_S1x15_S15)))))
    (constant S_ .f32 0x00000000#32) reducesTo_S2x16x64x15x2048_S2x16x64x2048_d3 h_S_

/-- The output product. -/
def output (r : FVec F S2x16x64x2048 .f32) (w : FVec F S1024x1024 .f32) (b : FVec F S1024 .f32) : FVec F S2x2048x1024 .f32 :=
  addf (Host.dotGeneral dot_S2x2048x1024_S1024x1024_S2x2048x1024_2_0_01_1_n_n none (shapeCast S2x2048x1024 r shapeCasts_S2x16x64x2048_S2x2048x1024) w)
    (broadcastInDim S2x2048x1024 ![0, 1, 2] bcast_S1x1x1024_S2x2048x1024_0_1_2 (broadcastInDim S1x1x1024 ![2] bcast_S1024_S1x1x1024_2 b))

section Stretches

variable (V : Valuation τ sig (Elt F))

theorem stretchA_q : after opsA V (main_v3 : DevRef τ sig) = headProj (V (main_arg0 : DevRef τ sig)) (V (main_arg3 : DevRef τ sig)) (V (main_arg4 : DevRef τ sig)) := by
  after_results_simp; rfl
theorem stretchA_k : after opsA V (main_v7 : DevRef τ sig) = headProj (V (main_arg1 : DevRef τ sig)) (V (main_arg3 : DevRef τ sig)) (V (main_arg4 : DevRef τ sig)) := by
  after_results_simp; rfl
theorem stretchA_v : after opsA V (main_v11 : DevRef τ sig) = headProj (V (main_arg2 : DevRef τ sig)) (V (main_arg3 : DevRef τ sig)) (V (main_arg4 : DevRef τ sig)) := by
  after_results_simp; rfl
theorem stretchB_q : after opsB V (main_v63 : DevRef τ sig) = heads (V (main_v3 : DevRef τ sig)) := by
  after_results_simp; rfl
theorem stretchB_k : after opsB V (main_v64 : DevRef τ sig) = heads (V (main_v7 : DevRef τ sig)) := by
  after_results_simp; rfl
theorem stretchB_v : after opsB V (main_v65 : DevRef τ sig) = heads (V (main_v11 : DevRef τ sig)) := by
  after_results_simp; rfl
theorem stretchC : after opsC V (main_v102 : DevRef τ sig) = lagCorr (V (main_v63 : DevRef τ sig)) (V (main_v64 : DevRef τ sig)) := by
  after_results_simp; rfl
theorem stretchD_i : after opsD V (main_indices : DevRef τ sig) = lags (V (main_v102 : DevRef τ sig)) := by
  after_results_simp; rfl
theorem stretchD_w : after opsD V (main_v113 : DevRef τ sig) = weights (tops (V (main_v102 : DevRef τ sig))) := by
  after_results_simp; rfl
theorem stretchE : after opsE V (main_v134 : DevRef τ sig)
    = output (mixed (V (main_v65 : DevRef τ sig)) (V (main_indices : DevRef τ sig)) (V (main_v113 : DevRef τ sig))) (V (main_arg5 : DevRef τ sig)) (V (main_arg6 : DevRef τ sig)) := by
  after_results_simp; rfl

end Stretches

/-- The reference's result as a function of its arguments. -/
def result (q k v : FVec F S2x2048x1024 .f32) (w : FVec F S1024x64 .f32) (b : FVec F S64 .f32) (wo : FVec F S1024x1024 .f32) (bo : FVec F S1024 .f32) :
    FVec F S2x2048x1024 .f32 :=
  output (mixed (heads (headProj v w b)) (lags (lagCorr (heads (headProj q w b)) (heads (headProj k w b))))
    (weights (tops (lagCorr (heads (headProj q w b)) (heads (headProj k w b)))))) wo bo

theorem result_eq (V : Valuation τ sig (Elt F)) :
    after ops V (main_v134 : DevRef τ sig) = result (V (main_arg0 : DevRef τ sig)) (V (main_arg1 : DevRef τ sig)) (V (main_arg2 : DevRef τ sig))
      (V (main_arg3 : DevRef τ sig)) (V (main_arg4 : DevRef τ sig)) (V (main_arg5 : DevRef τ sig)) (V (main_arg6 : DevRef τ sig)) := by
  have keepA : ∀ (V : Valuation τ sig (Elt F)) (b : Ref sig .tc), b ∈ [main_arg5, main_arg6] → after opsA V (b : DevRef τ sig) = V (b : DevRef τ sig) := fun V b hb =>
    after_of_writes_sub _ _ writesA (by revert b hb; decide)
  have keepB : ∀ (V : Valuation τ sig (Elt F)) (b : Ref sig .tc), b ∈ [main_arg5, main_arg6] → after opsB V (b : DevRef τ sig) = V (b : DevRef τ sig) := fun V b hb =>
    after_of_writes_sub _ _ writesB (by revert b hb; decide)
  have keepC : ∀ (V : Valuation τ sig (Elt F)) (b : Ref sig .tc), b ∈ [main_arg5, main_arg6, main_v65] → after opsC V (b : DevRef τ sig) = V (b : DevRef τ sig) := fun V b hb =>
    after_of_writes_sub _ _ writesC (by revert b hb; decide)
  have keepD : ∀ (V : Valuation τ sig (Elt F)) (b : Ref sig .tc), b ∈ [main_arg5, main_arg6, main_v65] → after opsD V (b : DevRef τ sig) = V (b : DevRef τ sig) := fun V b hb =>
    after_of_writes_sub _ _ writesD (by revert b hb; decide)
  rw [after_ops, stretchE, stretchD_i, stretchD_w, stretchC]
  rw [keepD _ main_v65 (by decide), keepC _ main_v65 (by decide), keepD _ main_arg5 (by decide), keepC _ main_arg5 (by decide), keepB _ main_arg5 (by decide), keepA _ main_arg5 (by decide),
    keepD _ main_arg6 (by decide), keepC _ main_arg6 (by decide), keepB _ main_arg6 (by decide), keepA _ main_arg6 (by decide)]
  rw [stretchB_q, stretchB_k, stretchB_v, stretchA_q, stretchA_k, stretchA_v]
  rfl

end Cert.Proof.Ref

end
-- ==== Proof.Ref.Entry.lean ====
/-
  The reference, entry by entry.
-/
module

public import proofs.«01_k».proof.Proof.Ref.Value
public import proofs.«01_k».proof.Proof.Math.Words
public import Idealize.ShloMosaic.Lib.Pointwise
public import Idealize.ShloMosaic.Lib.SortFacts

@[expose] public section

set_option maxRecDepth 16384

noncomputable section

namespace Cert.Proof.Ref

open Cert.ReferenceIdeal Cert.ReferenceIdeal.Gen
open Idealize.ShloMosaic Cert.Math

theorem headProj_apply (x : FVec Ideal S2x2048x1024 .f32) (w : FVec Ideal S1024x64 .f32) (b : FVec Ideal S64 .f32) (c : Fin 2) (t : Fin 2048) (h : Fin 64) :
    headProj x w b (ix3 c t h) = (∑ d : Fin 1024, x (ix3 c t d) * w (ix2 d h) : EReal) + b (ix1 h) := by
  pointwise [headProj]

theorem heads_apply (q : FVec Ideal S2x2048x64 .f32) (c : Fin 2) (n : Fin 16) (h : Fin 64) (t : Fin 2048) :
    heads q (ix4 c n h t) = q (ix3 c t h) := by
  pointwise [heads, copy]
  fin_vals n with hn
  all_goals simp only [hn, Nat.reduceSub, Nat.reduceLT, ↓reduceDIte]

theorem angles_apply (t f : Fin 2048) : angles (F := Ideal) (ix2 t f) = ((Math.angle t f : ℝ) : EReal) := by
  pointwise [angles]
  rw [show (FloatOps.sitofp (F := Ideal) .f32 (IntOp.remsi .host (IntOp.muli (BitVec.ofNat 32 t) (BitVec.ofNat 32 f)) 2048#32) : EReal)
      = (((t.val * f.val % 2048 : ℕ) : ℝ) : EReal) from by
      show ((((IntOp.remsi .host (IntOp.muli (BitVec.ofNat 32 t) (BitVec.ofNat 32 f)) 2048#32).toInt : ℝ)) : EReal) = _
      rw [mul_rem]; norm_cast,
    two_const, size_const, minus_const, half_turn, ← EReal.coe_mul, Ideal.div_coe (by norm_num), ← EReal.coe_mul, ← EReal.coe_mul]
  congr 1
  unfold Math.angle
  ring

theorem along_apply (q : FVec Ideal S2x16x64x2048 .f32) (a : FVec Ideal S2048x2048 .f32) (c : Fin 2) (n : Fin 16) (h : Fin 64) (f : Fin 2048) :
    along q a (ix4 c n h f) = (∑ t : Fin 2048, q (ix4 c n h t) * a (ix2 t f) : EReal) := by
  pointwise [along]

theorem along_real {q : FVec Ideal S2x16x64x2048 .f32} {a : FVec Ideal S2048x2048 .f32} {c : Fin 2} {n : Fin 16} {h : Fin 64} {f : Fin 2048}
    {r g : Fin 2048 → ℝ} (hr : ∀ t, q (ix4 c n h t) = ((r t : ℝ) : EReal)) (hg : ∀ t, a (ix2 t f) = ((g t : ℝ) : EReal)) :
    along q a (ix4 c n h f) = ((∑ t, r t * g t : ℝ) : EReal) := by
  rw [along_apply, coe_sum]
  exact Finset.sum_congr rfl fun t _ => by rw [hr, hg, EReal.coe_mul]

theorem cos_real (t f : Fin 2048) : Host.cos (angles (F := Ideal)) (ix2 t f) = ((Real.cos (Math.angle t f) : ℝ) : EReal) := by
  show Ideal.cos (angles (F := Ideal) (ix2 t f)) = _
  rw [angles_apply]; rfl
theorem sin_real (t f : Fin 2048) : Host.sin (angles (F := Ideal)) (ix2 t f) = ((Real.sin (Math.angle t f) : ℝ) : EReal) := by
  show Ideal.sin (angles (F := Ideal) (ix2 t f)) = _
  rw [angles_apply]; rfl

theorem headCorr_real {q k : FVec Ideal S2x16x64x2048 .f32} {c : Fin 2} {n : Fin 16} {h : Fin 64} {Q K : Fin 2048 → ℝ}
    (hq : ∀ t, q (ix4 c n h t) = ((Q t : ℝ) : EReal)) (hk : ∀ t, k (ix4 c n h t) = ((K t : ℝ) : EReal)) (s : Fin 2048) :
    headCorr q k (ix4 c n h s) = ((∑ u, Q (u + s) * K u : ℝ) : EReal) := by
  have qc : ∀ f, along q (Host.cos (angles (F := Ideal))) (ix4 c n h f) = ((Math.cosSum Q f : ℝ) : EReal) := fun f => along_real hq fun t => cos_real t f
  have qs : ∀ f, along q (Host.sin (angles (F := Ideal))) (ix4 c n h f) = ((Math.sinSum Q f : ℝ) : EReal) := fun f => along_real hq fun t => sin_real t f
  have kc : ∀ f, along k (Host.cos (angles (F := Ideal))) (ix4 c n h f) = ((Math.cosSum K f : ℝ) : EReal) := fun f => along_real hk fun t => cos_real t f
  have ks : ∀ f, along k (Host.sin (angles (F := Ideal))) (ix4 c n h f) = ((Math.sinSum K f : ℝ) : EReal) := fun f => along_real hk fun t => sin_real t f
  rw [← Math.freqCorr_eq]
  show Ideal.div ((along (F := Ideal) _ _ (ix4 c n h s) - along (F := Ideal) _ _ (ix4 c n h s) : EReal)) (Ideal.ofBits .f32 0x45000000#32) = _
  rw [size_const, Ideal.div_coe (by norm_num),
    along_real (r := fun f => Math.cosSum Q f * Math.cosSum K f + (-Math.sinSum Q f) * (-Math.sinSum K f)) (g := fun f => Real.cos (Math.angle f s)) _ (fun f => cos_real f s),
    along_real (r := fun f => (-Math.sinSum Q f) * Math.cosSum K f - Math.cosSum Q f * (-Math.sinSum K f)) (g := fun f => Real.sin (Math.angle f s)) _ (fun f => sin_real f s),
    ← EReal.coe_sub, ← EReal.coe_mul]
  · congr 1
    unfold Math.freqCorr
    ring
  · intro t
    show ((-(along (F := Ideal) _ _ (ix4 c n h t) : EReal)) * (along (F := Ideal) _ _ (ix4 c n h t) : EReal) - (along (F := Ideal) _ _ (ix4 c n h t) : EReal) * (-(along (F := Ideal) _ _ (ix4 c n h t) : EReal)) : EReal) = _
    rw [qc, qs, kc, ks]; norm_cast
  · intro t
    show ((along (F := Ideal) _ _ (ix4 c n h t) : EReal) * (along (F := Ideal) _ _ (ix4 c n h t) : EReal) + (-(along (F := Ideal) _ _ (ix4 c n h t) : EReal)) * (-(along (F := Ideal) _ _ (ix4 c n h t) : EReal)) : EReal) = _
    rw [qc, qs, kc, ks]; norm_cast

theorem sum_heads (x : FVec Ideal S2x16x64x2048 .f32) (s : Fin 2048) :
    Ideal.hostReduceAdd reducesTo_S2x16x64x2048_S2048_d0_1_2 x 0 (ix1 s) = (∑ p : Fin 2 × Fin 16 × Fin 64, x (ix4 p.1 p.2.1 p.2.2 s) : EReal) := by
  unfold Ideal.hostReduceAdd
  rw [zero_add]
  refine Finset.sum_bij' (fun j _ => (j 0, j 1, j 2)) (fun p _ => ix4 p.1 p.2.1 p.2.2 s) ?_ ?_ ?_ ?_ ?_
  · simp
  · intro p _
    simp only [Finset.mem_filter, Finset.mem_univ, true_and]
    funext a
    match a with | ⟨0, _⟩ => rfl
  · intro j hj
    simp only [Finset.mem_filter, Finset.mem_univ, true_and] at hj
    have := congrFun hj 0
    funext a
    match a with
    | ⟨0, _⟩ => rfl
    | ⟨1, _⟩ => rfl
    | ⟨2, _⟩ => rfl
    | ⟨3, _⟩ => exact this.symm
  · intro p _; rfl
  · intro j hj
    simp only [Finset.mem_filter, Finset.mem_univ, true_and] at hj
    have := congrFun hj 0
    congr 1
    funext a
    match a with
    | ⟨0, _⟩ => rfl
    | ⟨1, _⟩ => rfl
    | ⟨2, _⟩ => rfl
    | ⟨3, _⟩ => exact this

/-- The mean over batch, head and feature of the circular correlations. -/
def corr (Q K : Fin 2 → Fin 64 → Fin 2048 → ℝ) (s : Fin 2048) : ℝ := (∑ c, ∑ h, ∑ u, Q c h (u + s) * K c h u) / 128

theorem lagCorr_real {q k : FVec Ideal S2x2048x64 .f32} {Q K : Fin 2 → Fin 64 → Fin 2048 → ℝ}
    (hq : ∀ c h t, q (ix3 c t h) = ((Q c h t : ℝ) : EReal)) (hk : ∀ c h t, k (ix3 c t h) = ((K c h t : ℝ) : EReal)) (s : Fin 2048) :
    lagCorr (heads q) (heads k) (ix2 0 s) = ((corr Q K s : ℝ) : EReal) := by
  pointwise [lagCorr]
  rw [sum_heads, size_const, Ideal.div_coe (by norm_num)]
  rw [show (∑ p : Fin 2 × Fin 16 × Fin 64, headCorr (heads q) (heads k) (ix4 p.1 p.2.1 p.2.2 s) : EReal)
      = ((∑ p : Fin 2 × Fin 16 × Fin 64, ∑ u, Q p.1 p.2.2 (u + s) * K p.1 p.2.2 u : ℝ) : EReal) from by
    rw [coe_sum]
    exact Finset.sum_congr rfl fun p _ => headCorr_real (fun t => (heads_apply q _ _ _ t).trans (hq _ _ t)) (fun t => (heads_apply k _ _ _ t).trans (hk _ _ t)) s,
    ← EReal.coe_mul]
  congr 1
  simp only [Fintype.sum_prod_type, Finset.sum_const, Finset.card_univ, Fintype.card_fin, nsmul_eq_mul]
  unfold corr
  rw [← Finset.mul_sum]
  push_cast
  ring

/-- The lag at each rank. -/
def chosen (x : FVec Ideal S1x2048 .f32) (i : Fin 15) : Fin 2048 :=
  sortedFrom (fun k k' => FloatOps.cmpfTotal (F := Ideal) (φ := .f32) .gt (x (ix2 0 k)) (x (ix2 0 k')) == 1#1) ⟨i.val, by omega⟩

theorem along_row {n : Nat} (j : (⟨2, ![1, n]⟩ : Shape).Idx) (k : Fin n) : j.along (1 : Fin 2) k = ix2 0 k := by
  funext a
  match a with
  | ⟨0, _⟩ => exact Subsingleton.elim (α := Fin 1) _ _
  | ⟨1, _⟩ => rfl

/-- A row sorted together with its positions. -/
theorem sort_row {α : Type} {n : Nat} (gt : α → α → BitVec 1) (x : (⟨2, ![1, n]⟩ : Shape).Idx → α) (y : IVec ⟨2, ![1, n]⟩ 32) (i : Fin n) :
    (Host.sort2 ⟨2, ![1, n]⟩ 1 (fun l r => gt l.1 r.1) x y).1 (ix2 0 i) = x (ix2 0 (sortedFrom (fun k k' => gt (x (ix2 0 k)) (x (ix2 0 k')) == 1#1) i))
      ∧ (Host.sort2 ⟨2, ![1, n]⟩ 1 (fun l r => gt l.1 r.1) x y).2 (ix2 0 i) = y (ix2 0 (sortedFrom (fun k k' => gt (x (ix2 0 k)) (x (ix2 0 k')) == 1#1) i)) := by
  have e : (fun k k' : Fin n => gt (x (Shape.Idx.along (s := ⟨2, ![1, n]⟩) (ix2 0 i) (1 : Fin 2) k)) (x (Shape.Idx.along (s := ⟨2, ![1, n]⟩) (ix2 0 i) (1 : Fin 2) k')) == 1#1)
      = fun k k' => gt (x (ix2 0 k)) (x (ix2 0 k')) == 1#1 := by
    funext k k'; rw [along_row, along_row]
  have r : Shape.Idx.along (s := ⟨2, ![1, n]⟩) (ix2 0 i) (1 : Fin 2) (sortedFrom (fun k k' : Fin n => gt (x (Shape.Idx.along (s := ⟨2, ![1, n]⟩) (ix2 0 i) (1 : Fin 2) k)) (x (Shape.Idx.along (s := ⟨2, ![1, n]⟩) (ix2 0 i) (1 : Fin 2) k')) == 1#1) i)
      = ix2 0 (sortedFrom (fun k k' => gt (x (ix2 0 k)) (x (ix2 0 k')) == 1#1) i) :=
    (along_row _ _).trans (congrArg (ix2 0) (congrArg (fun B => sortedFrom B i) e))
  exact ⟨congrArg x r, congrArg y r⟩

theorem slice_row {α : Type} (y : S1x2048.Idx → α) (h : S1x2048.Slices (fun _ => 0) S1x15) (i : Fin 15) :
    extractStridedSlice S1x15 (fun _ => 0) y h (ix2 0 i) = y (ix2 0 ⟨i.val, by omega⟩) := by
  pointwise

theorem tops_apply (x : FVec Ideal S1x2048 .f32) (i : Fin 15) : tops x (ix2 0 i) = x (ix2 0 (chosen x i)) := by
  have e := sort_row (FloatOps.cmpfTotal (F := Ideal) (φ := .f32) .gt) x
    (fun i => if hd : 1 < S1x2048.rank then iotaInDim S1x2048 32 ⟨1, hd⟩ i else 0#32) ⟨i.val, by omega⟩
  exact (slice_row _ sliceFits_S1x2048_S1x15 i).trans e.1

theorem lags_apply (x : FVec Ideal S1x2048 .f32) (i : Fin 15) : lags x (ix2 0 i) = BitVec.ofNat 32 (chosen x i).val := by
  have e := sort_row (FloatOps.cmpfTotal (F := Ideal) (φ := .f32) .gt) x
    (fun i => if hd : 1 < S1x2048.rank then iotaInDim S1x2048 32 ⟨1, hd⟩ i else 0#32) ⟨i.val, by omega⟩
  refine ((slice_row _ sliceFits_S1x2048_S1x15 i).trans e.2).trans ?_
  rw [dif_pos (show 1 < S1x2048.rank by decide)]
  rfl

theorem chosen_isTop {x : FVec Ideal S1x2048 .f32} {r : Fin 2048 → ℝ} (hx : ∀ s, x (ix2 0 s) = ((r s : ℝ) : EReal)) : Math.IsTop r (chosen x) where
  inj i j h := by
    have := sortedFrom_injective _ h
    exact Fin.ext (Fin.mk.inj_iff.mp this)
  le u hu i := by
    have hB : ∀ k k' : Fin 2048, (FloatOps.cmpfTotal (F := Ideal) (φ := .f32) .gt (x (ix2 0 k)) (x (ix2 0 k')) == 1#1) = decide (r k' < r k) := by
      intro k k'
      show (BitVec.ofBool (decide (x (ix2 0 k') < x (ix2 0 k))) == 1#1) = _
      rw [hx, hx]
      simp only [EReal.coe_lt_coe_iff]
      by_cases h : r k' < r k <;> simp [h]
    obtain ⟨j, hj⟩ := sortedFrom_surjective (fun k k' => FloatOps.cmpfTotal (F := Ideal) (φ := .f32) .gt (x (ix2 0 k)) (x (ix2 0 k')) == 1#1) u
    have hl : 15 ≤ j.val := by
      by_contra hlt
      exact hu ⟨j.val, by omega⟩ hj
    have := sortedFrom_noInversion (fun k k' => FloatOps.cmpfTotal (F := Ideal) (φ := .f32) .gt (x (ix2 0 k)) (x (ix2 0 k')) == 1#1)
      (fun k k' => FloatOps.cmpfTotal (F := Ideal) (φ := .f32) .gt (x (ix2 0 k)) (x (ix2 0 k')) == 1#1)
      (fun a b h => by rw [hB] at h ⊢; simp only [decide_eq_true_eq, decide_eq_false_iff_not] at h ⊢; exact not_lt.mpr h.le)
      (fun a b h => h)
      (fun a b c h h' => by rw [hB] at h h' ⊢; simp only [decide_eq_false_iff_not, not_lt] at h h' ⊢; exact h.trans h')
      ⟨i.val, by omega⟩ j (by show i.val < j.val; omega)
    rw [hj, hB] at this
    exact not_lt.mp (of_decide_eq_false this)

theorem weights_real {v : FVec Ideal S1x15 .f32} {x : Fin 2048 → ℝ} {I : Fin 15 → Fin 2048} (hv : ∀ i, v (ix2 0 i) = ((x (I i) : ℝ) : EReal)) (i : Fin 15) :
    weights v (ix2 0 i) = ((Math.weight x I i : ℝ) : EReal) := by
  pointwise [weights, expTops]
  simp only [hv, bot_const, fold_peak]
  rw [max_eq_right bot_le]
  exact weight_real x I i

theorem rotated_apply (v : FVec Ideal S2x16x64x2048 .f32) (ι : IVec S1x15 32) (I : Fin 15 → Fin 2048) (hi : ∀ i, ι (ix2 0 i) = BitVec.ofNat 32 (I i).val)
    (c : Fin 2) (n : Fin 16) (h : Fin 64) (i : Fin 15) (t : Fin 2048) :
    rotated v ι (ix5 c n h i t) = v (ix4 c n h (t + I i)) := by
  have hp : positions ι (ix2 i t) = IntOp.remsi .host (IntOp.addi (BitVec.ofNat 32 (I i).val) (BitVec.ofNat 32 t.val)) 2048#32 := by
    rw [← hi]
    pointwise [positions]
  unfold rotated Host.gather
  congr 1
  have hs : ∀ a : Fin 4, a ≠ 3 → ∀ p : IVec S15x2048x1 32, GatherDims.start gather_S2x16x64x2048_S15x2048x1_S2x16x64x15x2048_012_3_n_n_3_2_216641 (ix5 c n h i t) p a = 0 := by
    intro a ha p
    unfold GatherDims.start
    exact dif_neg (fun hm => ha (List.mem_singleton.mp hm))
  have ho : ∀ a : Fin 4, a ≠ 3 → GatherDims.offCoord gather_S2x16x64x2048_S15x2048x1_S2x16x64x15x2048_012_3_n_n_3_2_216641 (ix5 c n h i t) a
      = ((ix4 c n h (t + I i) : S2x16x64x2048.Idx) a).val := by
    intro a ha
    unfold GatherDims.offCoord
    rw [dif_pos ((GatherDims.mem_sKept _ _).mpr ⟨fun hm => ha (List.mem_singleton.mp hm), List.not_mem_nil⟩)]
    match a, ha with
    | ⟨0, _⟩, _ => rfl
    | ⟨1, _⟩, _ => rfl
    | ⟨2, _⟩, _ => rfl
    | ⟨3, _⟩, hc => exact absurd rfl hc
  have h3 : GatherDims.start gather_S2x16x64x2048_S15x2048x1_S2x16x64x15x2048_012_3_n_n_3_2_216641 (ix5 c n h i t)
      (broadcastInDim S15x2048x1 ![0, 1] bcast_S15x2048_S15x2048x1_0_1 (positions ι)) (3 : Fin 4) = (t + I i).val := by
    unfold GatherDims.start
    refine (dif_pos (show (3 : Fin 4) ∈ [(3 : Fin 4)] from List.mem_singleton.mpr rfl)).trans ?_
    have hsi : GatherDims.siIdx gather_S2x16x64x2048_S15x2048x1_S2x16x64x15x2048_012_3_n_n_3_2_216641 (ix5 c n h i t)
        ⟨List.idxOf (3 : Fin 4) [(3 : Fin 4)], List.idxOf_lt_length_iff.2 (List.mem_singleton.mpr rfl)⟩ = (ix3 i t 0 : S15x2048x1.Idx) := by
      funext b
      match b with
      | ⟨0, _⟩ => rfl
      | ⟨1, _⟩ => rfl
      | ⟨2, _⟩ => rfl
    have e := add_rem (I i) t
    have e' : (positions ι (ix2 i t)).toInt.toNat = (t + I i).val := by
      rw [hp, toInt_small (by rw [e]; omega), e, add_comm]; rfl
    have e2 : broadcastInDim S15x2048x1 ![0, 1] bcast_S15x2048_S15x2048x1_0_1 (positions ι) (ix3 i t 0) = positions ι (ix2 i t) := by
      pointwise
    refine (congrArg (fun z => min (broadcastInDim S15x2048x1 ![0, 1] bcast_S15x2048_S15x2048x1_0_1 (positions ι) z).toInt.toNat (2048 - 1)) hsi).trans ?_
    simp only [e2, e']
    omega
  funext a
  refine Fin.ext ?_
  show GatherDims.start _ _ _ a + GatherDims.batchCoord _ _ a + GatherDims.offCoord _ _ a = _
  rw [GatherDims.batchCoord_eq_zero _ _ _ List.not_mem_nil, Nat.add_zero]
  by_cases ha : a = (3 : Fin 4)
  · subst ha
    rw [GatherDims.offCoord_eq_zero _ _ _ (fun hm => ((GatherDims.mem_sKept _ _).mp hm).1 (List.mem_singleton.mpr rfl)), h3]
    rfl
  · rw [hs a ha, ho a ha, Nat.zero_add]

theorem mixed_real {v : FVec Ideal S2x2048x64 .f32} {ι : IVec S1x15 32} {w : FVec Ideal S1x15 .f32} {x : Fin 2048 → ℝ} {I : Fin 15 → Fin 2048}
    (hi : ∀ i, ι (ix2 0 i) = BitVec.ofNat 32 (I i).val) (hw : ∀ i, w (ix2 0 i) = ((Math.weight x I i : ℝ) : EReal))
    (c : Fin 2) (n : Fin 16) (h : Fin 64) (t : Fin 2048) :
    mixed (heads v) ι w (ix4 c n h t) = Math.mix x I (fun u => v (ix3 c u h)) t := by
  have e : mixed (heads v) ι w (ix4 c n h t) = (∑ i : Fin 15, rotated (heads v) ι (ix5 c n h i t) * w (ix2 0 i) : EReal) := by
    pointwise [mixed]
  rw [e]
  unfold Math.mix
  exact Finset.sum_congr rfl fun i _ => by rw [rotated_apply _ _ I hi, hw, heads_apply, mul_comm]

theorem output_apply (r : FVec Ideal S2x16x64x2048 .f32) (w : FVec Ideal S1024x1024 .f32) (b : FVec Ideal S1024 .f32) (c : Fin 2) (p : Fin 2048) (e : Fin 1024) :
    output r w b (ix3 c p e) = (∑ j : Fin 1024, r (ix4 c ⟨p.val / 128, by omega⟩ ⟨p.val / 2 % 64, by omega⟩ ⟨p.val % 2 * 1024 + j.val, by omega⟩) * w (ix2 j e) : EReal) + b (ix1 e) := by
  pointwise [output]

/-- The result, entry by entry, where the projections are real. -/
theorem result_apply {q k v : FVec Ideal S2x2048x1024 .f32} {w : FVec Ideal S1024x64 .f32} {b : FVec Ideal S64 .f32}
    (wo : FVec Ideal S1024x1024 .f32) (bo : FVec Ideal S1024 .f32) {Q K : Fin 2 → Fin 64 → Fin 2048 → ℝ}
    (hq : ∀ c h t, headProj q w b (ix3 c t h) = ((Q c h t : ℝ) : EReal)) (hk : ∀ c h t, headProj k w b (ix3 c t h) = ((K c h t : ℝ) : EReal)) :
    ∃ I, Math.IsTop (corr Q K) I ∧ ∀ (c : Fin 2) (p : Fin 2048) (e : Fin 1024), result q k v w b wo bo (ix3 c p e)
      = (∑ j : Fin 1024, Math.mix (corr Q K) I (fun u => headProj v w b (ix3 c u ⟨p.val / 2 % 64, by omega⟩)) ⟨p.val % 2 * 1024 + j.val, by omega⟩ * wo (ix2 j e) : EReal)
        + bo (ix1 e) := by
  have hx := lagCorr_real hq hk
  refine ⟨chosen (lagCorr (heads (headProj q w b)) (heads (headProj k w b))), chosen_isTop hx, fun c p e => ?_⟩
  unfold result
  rw [output_apply]
  congr 1
  refine Finset.sum_congr rfl fun j _ => ?_
  rw [mixed_real (x := corr Q K) (fun i => lags_apply _ i) fun i => weights_real (fun i => by rw [tops_apply, hx]) i]

end Cert.Proof.Ref

end
-- ==== Proof.Pre.lean ====
/-
  What the precondition says: the arguments it names are real, and exactly fifteen lags have fewer than fifteen above them.
-/
module

public import proofs.«01_k».proof.Pre_top_lags_determined
public import proofs.«01_k».proof.Proof.Math.Words
public import Idealize.ShloMosaic.Lib.Pointwise
public import Idealize.ShloMosaic.Lib.ReduceAll
public import Idealize.ShloMosaic.Lib.StableHlo.Predicate
public import Idealize.ShloMosaic.Lib.ValueIdxCore

@[expose] public section

set_option maxRecDepth 16384

noncomputable section

namespace Cert.Proof.Pre

open Cert.Pre_top_lags_determined Cert.Pre_top_lags_determined.Facts
open Idealize.ShloMosaic Cert.Math

instance facts : Cert.Pre_top_lags_determined.Facts where
  bcast_S64_S1x1x64_2 := by decide
  bcast_S1x1x64_S2x2048x64_0_1_2 := by decide
  shapeCasts_S2048x2048_S4194304 := by decide
  bcast_S2048_S2048x1_0 := by decide
  bcast_S2048_S1x2048_1 := by decide
  bcast_S2048x1_S2048x2048_0_1 := by decide
  bcast_S1x2048_S2048x2048_0_1 := by decide
  bcast_S_S2048x2048 := by decide
  bcast_S2048x2048_S2048x2048x1_0_1 := by decide
  reducesTo_S2048x2048_S2048_d1 := by decide
  h_S_ := by decide
  natLt_1_32 := by decide
  bcast_S_S2048 := by decide
  reducesTo_S2048_S_d0 := by decide
  bcast_S_S2x2048x1024 := by decide
  reducesTo_S2x2048x1024_S_d0_1_2 := by decide
  bcast_S_S1024x64 := by decide
  reducesTo_S1024x64_S_d0_1 := by decide
  bcast_S_S64 := by decide
  reducesTo_S64_S_d0 := by decide
  dot_S2x2048x1024_S1024x64_S2x2048x64_2_0_01_1_n_n_wf := by decide
  dot_S2x2048x64_S2x2048x64_S2048x2048_02_02_1_1_n_n_wf := by decide
  gather_S4194304_S2048x2048x1_S2048x2048_n_0_n_n_0_2_1_wf := by decide

/-- A projection with its bias. -/
def proj (x : FVec Ideal S2x2048x1024 .f32) (w : FVec Ideal S1024x64 .f32) (b : FVec Ideal S64 .f32) : FVec Ideal S2x2048x64 .f32 :=
  addf (Host.dotGeneral dot_S2x2048x1024_S1024x64_S2x2048x64_2_0_01_1_n_n none x w)
    (broadcastInDim S2x2048x64 ![0, 1, 2] bcast_S1x1x64_S2x2048x64_0_1_2 (broadcastInDim S1x1x64 ![2] bcast_S64_S1x1x64_2 b))

/-- The products of the projections at two times. -/
def gram (q k : FVec Ideal S2x2048x64 .f32) : FVec Ideal S2048x2048 .f32 :=
  Host.dotGeneral dot_S2x2048x64_S2x2048x64_S2048x2048_02_02_1_1_n_n none q k

/-- The flat positions read for each lag. -/
def reads : IVec S2048x2048 32 :=
  addi (muli (Host.remsi
      (addi (broadcastInDim S2048x2048 ![0, 1] bcast_S2048x1_S2048x2048_0_1 (broadcastInDim S2048x1 ![0] bcast_S2048_S2048x1_0 (iotaInDim S2048 32 0)))
        (broadcastInDim S2048x2048 ![0, 1] bcast_S1x2048_S2048x2048_0_1 (broadcastInDim S1x2048 ![1] bcast_S2048_S1x2048_1 (iotaInDim S2048 32 0))))
      (broadcastInDim S2048x2048 ![] bcast_S_S2048x2048 (constantI S_ 32 2048#32)))
      (broadcastInDim S2048x2048 ![] bcast_S_S2048x2048 (constantI S_ 32 2048#32)))
    (broadcastInDim S2048x2048 ![0, 1] bcast_S1x2048_S2048x2048_0_1 (broadcastInDim S1x2048 ![1] bcast_S2048_S1x2048_1 (iotaInDim S2048 32 0)))

/-- The sum for each lag. -/
def lagSum (q k : FVec Ideal S2x2048x64 .f32) : FVec Ideal S2048 .f32 :=
  Host.reduceAdd (fn_take (shapeCast S4194304 (gram q k) shapeCasts_S2048x2048_S4194304) reads) (constant S_ .f32 0x00000000#32) reducesTo_S2048x2048_S2048_d1 h_S_

/-- Which lags are above which. -/
def above (y : FVec Ideal S2048 .f32) : IVec S2048x2048 1 :=
  cmpf .ogt (broadcastInDim S2048x2048 ![0, 1] bcast_S1x2048_S2048x2048_0_1 (broadcastInDim S1x2048 ![1] bcast_S2048_S1x2048_1 y))
    (broadcastInDim S2048x2048 ![0, 1] bcast_S2048x1_S2048x2048_0_1 (broadcastInDim S2048x1 ![0] bcast_S2048_S2048x1_0 y))

/-- The lags with fewer than fifteen above them. -/
def few (y : FVec Ideal S2048 .f32) : IVec S2048 1 :=
  cmpi .slt (Host.reduce IntOp.addi (extui 32 (above y) natLt_1_32) (constantI S_ 32 0#32) reducesTo_S2048x2048_S2048_d1 h_S_)
    (broadcastInDim S2048 ![] bcast_S_S2048 (constantI S_ 32 15#32))

/-- Their number. -/
def count (y : FVec Ideal S2048 .f32) : IVec S_ 32 :=
  Host.reduce IntOp.addi (extui 32 (few y) natLt_1_32) (constantI S_ 32 0#32) reducesTo_S2048_S_d0 h_S_

theorem fn_reads (q k v : FVec Ideal S2x2048x1024 .f32) (w : FVec Ideal S1024x64 .f32) (b : FVec Ideal S64 .f32) (wo : FVec Ideal S1024x1024 .f32) (bo : FVec Ideal S1024 .f32) :
    fn q k v w b wo bo = andi (andi (andi (andi
      (Host.reduce IntOp.andi (cmpf .olt (Host.absf q) (broadcastInDim S2x2048x1024 ![] bcast_S_S2x2048x1024 (constant S_ .f32 0x7F800000#32))) (constantI S_ 1 1#1) reducesTo_S2x2048x1024_S_d0_1_2 h_S_)
      (Host.reduce IntOp.andi (cmpf .olt (Host.absf k) (broadcastInDim S2x2048x1024 ![] bcast_S_S2x2048x1024 (constant S_ .f32 0x7F800000#32))) (constantI S_ 1 1#1) reducesTo_S2x2048x1024_S_d0_1_2 h_S_))
      (Host.reduce IntOp.andi (cmpf .olt (Host.absf w) (broadcastInDim S1024x64 ![] bcast_S_S1024x64 (constant S_ .f32 0x7F800000#32))) (constantI S_ 1 1#1) reducesTo_S1024x64_S_d0_1 h_S_))
      (Host.reduce IntOp.andi (cmpf .olt (Host.absf b) (broadcastInDim S64 ![] bcast_S_S64 (constant S_ .f32 0x7F800000#32))) (constantI S_ 1 1#1) reducesTo_S64_S_d0 h_S_))
      (cmpi .eq (count (lagSum (proj q w b) (proj k w b))) (constantI S_ 32 15#32)) := rfl

/-- An entry below the largest in size is real. -/
theorem real_of_lt {x : EReal} (h : Ideal.cmp .olt (max x (-x)) ⊤ = 1#1) : ∃ r : ℝ, x = ((r : ℝ) : EReal) := by
  have h' : max x (-x) < ⊤ := by
    by_contra hn
    simp [Ideal.cmp, hn] at h
  induction x using EReal.rec with
  | bot => simp at h'
  | coe r => exact ⟨r, rfl⟩
  | top => simp at h'

theorem proj_apply (x : FVec Ideal S2x2048x1024 .f32) (w : FVec Ideal S1024x64 .f32) (b : FVec Ideal S64 .f32) (c : Fin 2) (t : Fin 2048) (h : Fin 64) :
    proj x w b (ix3 c t h) = (∑ d : Fin 1024, x (ix3 c t d) * w (ix2 d h) : EReal) + b (ix1 h) := by
  pointwise [proj]

theorem gram_apply (q k : FVec Ideal S2x2048x64 .f32) (u t : Fin 2048) :
    gram q k (ix2 u t) = (∑ c : Fin 2, ∑ h : Fin 64, q (ix3 c u h) * k (ix3 c t h) : EReal) := by
  pointwise [gram]

theorem reads_apply (s t : Fin 2048) : (reads (ix2 s t)).toInt.toNat = (s + t).val * 2048 + t.val := by
  have e : reads (ix2 s t) = IntOp.addi (IntOp.muli (IntOp.remsi .host (IntOp.addi (BitVec.ofNat 32 s.val) (BitVec.ofNat 32 t.val)) 2048#32) 2048#32) (BitVec.ofNat 32 t.val) := by
    pointwise [reads]
  have e1 := add_rem s t
  have e2 : (IntOp.addi (IntOp.muli (IntOp.remsi .host (IntOp.addi (BitVec.ofNat 32 s.val) (BitVec.ofNat 32 t.val)) 2048#32) 2048#32) (BitVec.ofNat 32 t.val)).toNat
      = (s + t).val * 2048 + t.val := by
    show (IntOp.remsi .host (IntOp.addi (BitVec.ofNat 32 s.val) (BitVec.ofNat 32 t.val)) 2048#32 * 2048#32 + BitVec.ofNat 32 t.val).toNat = _
    rw [BitVec.toNat_add, BitVec.toNat_mul, e1, BitVec.toNat_ofNat, BitVec.toNat_ofNat, Nat.mod_eq_of_lt (a := t.val) (by omega),
      Nat.mod_eq_of_lt (a := 2048) (by norm_num), Nat.mod_eq_of_lt (a := (s + t).val * 2048) (by omega), Nat.mod_eq_of_lt (by omega)]
  rw [e, BitVec.toInt_eq_toNat_of_lt (by omega), e2, Int.toNat_natCast]

theorem flat_apply (g : FVec Ideal S2048x2048 .f32) (u t : Fin 2048) (h : u.val * 2048 + t.val < 4194304) :
    shapeCast S4194304 g shapeCasts_S2048x2048_S4194304 (ix1 ⟨u.val * 2048 + t.val, h⟩) = g (ix2 u t) := by
  pointwise

theorem take_apply (x : FVec Ideal S4194304 .f32) (i : IVec S2048x2048 32) (s t : Fin 2048) (n : Fin 4194304) (h : (i (ix2 s t)).toInt.toNat = n.val) :
    fn_take x i (ix2 s t) = x (ix1 n) := by
  have e2 : broadcastInDim S2048x2048x1 ![0, 1] bcast_S2048x2048_S2048x2048x1_0_1 i (ix3 s t 0) = i (ix2 s t) := by
    pointwise
  refine (ValueIdx.gather_take_apply (by norm_num) _ x _ (ix2 s t)).trans (congrArg x ?_)
  refine congrArg ix1 (Fin.ext ?_)
  show min (broadcastInDim S2048x2048x1 ![0, 1] bcast_S2048x2048_S2048x2048x1_0_1 i _).toInt.toNat (4194304 - 1) = n.val
  rw [show ValueIdx.takeIdx (ix2 s t) = ix3 s t 0 from by
    funext a
    match a with
    | ⟨0, _⟩ => rfl
    | ⟨1, _⟩ => rfl
    | ⟨2, _⟩ => rfl, e2, h]
  omega

theorem lagSum_real {q k : FVec Ideal S2x2048x64 .f32} {Q K : Fin 2 → Fin 64 → Fin 2048 → ℝ}
    (hq : ∀ c h t, q (ix3 c t h) = ((Q c h t : ℝ) : EReal)) (hk : ∀ c h t, k (ix3 c t h) = ((K c h t : ℝ) : EReal)) (s : Fin 2048) :
    lagSum q k (ix1 s) = ((∑ c, ∑ h, ∑ u, Q c h (u + s) * K c h u : ℝ) : EReal) := by
  have e : lagSum q k (ix1 s) = (∑ t : Fin 2048, fn_take (shapeCast S4194304 (gram q k) shapeCasts_S2048x2048_S4194304) reads (ix2 s t) : EReal) := by
    pointwise [lagSum]
  have et : ∀ t : Fin 2048, fn_take (shapeCast S4194304 (gram q k) shapeCasts_S2048x2048_S4194304) reads (ix2 s t)
      = ((∑ c, ∑ h, Q c h (t + s) * K c h t : ℝ) : EReal) := by
    intro t
    have hlt : (s + t).val * 2048 + t.val < 4194304 := by omega
    rw [take_apply _ _ s t ⟨(s + t).val * 2048 + t.val, hlt⟩ (reads_apply s t), flat_apply, gram_apply, coe_sum]
    refine Finset.sum_congr rfl fun c _ => ?_
    rw [coe_sum]
    exact Finset.sum_congr rfl fun h _ => by rw [hq, hk, add_comm s t, EReal.coe_mul]
  rw [e, Finset.sum_congr rfl fun t _ => et t, ← coe_sum]
  congr 1
  rw [Finset.sum_comm]
  exact Finset.sum_congr rfl fun c _ => Finset.sum_comm

theorem above_apply {y : FVec Ideal S2048 .f32} {r : Fin 2048 → ℝ} (hy : ∀ s, y (ix1 s) = ((r s : ℝ) : EReal)) (s u : Fin 2048) :
    above y (ix2 s u) = 1#1 ↔ r s < r u := by
  have e : above y (ix2 s u) = BitVec.ofBool (decide ((y (ix1 s) : EReal) < y (ix1 u))) := by
    pointwise [above]
  rw [e, hy, hy, StableHlo.Predicate.ofBool_eq_one_iff, decide_eq_true_iff, EReal.coe_lt_coe_iff]

theorem few_apply {y : FVec Ideal S2048 .f32} {r : Fin 2048 → ℝ} (hy : ∀ s, y (ix1 s) = ((r s : ℝ) : EReal)) (s : Fin 2048) :
    few y (ix1 s) = 1#1 ↔ (Finset.univ.filter fun u => r s < r u).card < 15 := by
  have c := StableHlo.Predicate.toNat_reduce_count_cols (n := 2048) (m := 2048) (by norm_num) (above y) natLt_1_32 reducesTo_S2048x2048_S2048_d1 h_S_ (ix1 s)
  have hc : (Finset.univ.filter (fun q : Fin 2048 => above y (StableHlo.Predicate.ij s q) = 1#1)).card = (Finset.univ.filter fun u => r s < r u).card := by
    refine congrArg Finset.card (Finset.filter_congr fun u _ => ?_)
    rw [← above_apply hy s u]
    have : (StableHlo.Predicate.ij s u : S2048x2048.Idx) = ix2 s u := by
      funext a
      match a with
      | ⟨0, _⟩ => rfl
      | ⟨1, _⟩ => rfl
    rw [this]
  have hle := Finset.card_le_univ (Finset.univ.filter fun u => r s < r u)
  rw [Fintype.card_fin] at hle
  have c' := c.trans hc
  show IntOp.cmpi .slt (Host.reduce IntOp.addi (extui 32 (above y) natLt_1_32) (constantI S_ 32 0#32) reducesTo_S2048x2048_S2048_d1 h_S_ (ix1 s)) 15#32 = 1#1 ↔ _
  rw [StableHlo.Predicate.slt_iff_toNat (by rw [c']; omega) (by decide), c']
  exact Iff.rfl

theorem count_apply {y : FVec Ideal S2048 .f32} {r : Fin 2048 → ℝ} (hy : ∀ s, y (ix1 s) = ((r s : ℝ) : EReal)) (j : S_.Idx) :
    (count y j).toNat = (top r).card := by
  have hsum : ∑ i ∈ Finset.univ.filter (fun i : S2048.Idx => (reducesTo_S2048_S_d0 (self := facts)).drop i = j), (extui 32 (few y) natLt_1_32 i).toNat = (top r).card := by
    unfold top
    rw [Finset.card_filter]
    refine Finset.sum_bij' (fun i _ => i 0) (fun s _ => ix1 s) (fun _ _ => Finset.mem_univ _)
      (fun s _ => Finset.mem_filter.2 ⟨Finset.mem_univ _, funext fun a => a.elim0⟩) (fun i _ => ?_) (fun _ _ => rfl) (fun i _ => ?_)
    · funext a
      match a with | ⟨0, _⟩ => rfl
    · have hi : i = ix1 (i 0) := by
        funext a
        match a with | ⟨0, _⟩ => rfl
      show ((few y i).setWidth 32).toNat = _
      rw [StableHlo.Predicate.toNat_setWidth_bit, hi]
      exact if_congr (few_apply hy (i 0)) rfl rfl
  unfold count
  rw [Host.reduce_eq_fold]
  show (Finset.fold IntOp.addi 0#32 _ _).toNat = _
  have hle := Finset.card_le_univ (top r)
  rw [Fintype.card_fin] at hle
  rw [StableHlo.Predicate.toNat_fold_addi _ _ (by rw [hsum]; omega), hsum]

/-- What the precondition gives. -/
theorem given_facts {q k v : FVec Ideal S2x2048x1024 .f32} {w : FVec Ideal S1024x64 .f32} {b : FVec Ideal S64 .f32} {wo : FVec Ideal S1024x1024 .f32} {bo : FVec Ideal S1024 .f32}
    (h : fn q k v w b wo bo = fun _ => 1#1) :
    (∀ i, ∃ r : ℝ, q i = ((r : ℝ) : EReal)) ∧ (∀ i, ∃ r : ℝ, k i = ((r : ℝ) : EReal)) ∧ (∀ i, ∃ r : ℝ, w i = ((r : ℝ) : EReal)) ∧ (∀ i, ∃ r : ℝ, b i = ((r : ℝ) : EReal))
      ∧ ∀ r : Fin 2048 → ℝ, (∀ s, lagSum (proj q w b) (proj k w b) (ix1 s) = ((r s : ℝ) : EReal)) → (top r).card = 15 := by
  rw [fn_reads] at h
  have h0 := congrFun h ix0
  simp only [andi_apply, IntOp.andi_eq_one] at h0
  obtain ⟨⟨⟨⟨h1, h2⟩, h3⟩, h4⟩, h5⟩ := h0
  haveI : Subsingleton S_.Idx := ⟨fun a b => funext fun i => i.elim0⟩
  refine ⟨fun i => ?_, fun i => ?_, fun i => ?_, fun i => ?_, fun r hr => ?_⟩
  · exact real_of_lt (by rw [← top_const]; exact Host.reduce_andi_all _ _ _ _ _ h1 i)
  · exact real_of_lt (by rw [← top_const]; exact Host.reduce_andi_all _ _ _ _ _ h2 i)
  · exact real_of_lt (by rw [← top_const]; exact Host.reduce_andi_all _ _ _ _ _ h3 i)
  · exact real_of_lt (by rw [← top_const]; exact Host.reduce_andi_all _ _ _ _ _ h4 i)
  · have e : count (lagSum (proj q w b) (proj k w b)) ix0 = 15#32 := StableHlo.Predicate.cmpi_eq_iff.mp h5
    rw [← count_apply hr ix0, e]
    rfl

end Cert.Proof.Pre

end
-- ==== Proof.Algebra.lean ====
/-
  The idealized kernel and the reference leave the same array.
-/
module

public import proofs.«01_k».proof.Defs
public import proofs.«01_k».proof.Proof.KernelIdeal.Rows
public import proofs.«01_k».proof.Proof.Ref.Entry
public import proofs.«01_k».proof.Proof.Pre

@[expose] public section

set_option maxRecDepth 16384

noncomputable section

namespace Cert.Proof

open Cert.KernelIdeal Cert.KernelIdeal.Gen Cert.KernelIdeal.Body Cert.KernelIdeal.Value
open Idealize.ShloMosaic Idealize.ShloMosaic.TcCoe Idealize.SL.Sem Cert.Math

/-! ## The kernel's array over the reals -/

section Kernel

variable (m : (ℓ : Loc nD τ sig) → Buf (Elt Ideal) ℓ) (c : Dev nD)

/-- An operand's head sequences, as launched. -/
def headQ := head (m ((c : Thread nD τ).loc main_arg0)) (m ((c : Thread nD τ).loc main_arg3)) (m ((c : Thread nD τ).loc main_arg4))
def headK := head (m ((c : Thread nD τ).loc main_arg1)) (m ((c : Thread nD τ).loc main_arg3)) (m ((c : Thread nD τ).loc main_arg4))
def headV := head (m ((c : Thread nD τ).loc main_arg2)) (m ((c : Thread nD τ).loc main_arg3)) (m ((c : Thread nD τ).loc main_arg4))

variable {m c} {Q K : Fin 2 → Fin 64 → Fin 2048 → ℝ}

theorem launchRow_entry (hq : ∀ z h t, headQ m c z h t = ((Q z h t : ℝ) : EReal)) (hk : ∀ z h t, headK m c z h t = ((K z h t : ℝ) : EReal)) (j : Fin 2048) :
    entries (launchRow m c) j = ((Ref.corr Q K (-j) : ℝ) : EReal) := by
  have e9 : ∀ f t, wide scM0_0 (Memref.isWhole_whole _) (full9 m c) (ix2 f t) = ((Q (batchOf f) (featOf f) t : ℝ) : EReal) := fun f t =>
    (wide_full _ _ (full9 m c) (headQ m c) (full9_entry m c) f t).trans (hq _ _ _)
  have e10 : ∀ f t, wide scM0_1 (Memref.isWhole_whole _) (full10 m c) (ix2 f t) = ((K (batchOf f) (featOf f) t : ℝ) : EReal) := fun f t =>
    (wide_full _ _ (full10 m c) (headK m c) (full10_entry m c) f t).trans (hk _ _ _)
  have es : (∑ f : Fin 128, ∑ u, Q (batchOf f) (featOf f) (u + -j) * K (batchOf f) (featOf f) u) = ∑ z, ∑ h, ∑ u, Q z h (u + -j) * K z h u :=
    sum_rows fun z h => ∑ u, Q z h (u + -j) * K z h u
  unfold entries launchRow row Ref.corr
  exact (corrRow_apply e9 e10 0 j).trans (congrArg (fun s : ℝ => ((s / 128 : ℝ) : EReal)) es)

theorem spread_mix {x : FVec Ideal S1x2048 .f32} {y : Fin 2048 → ℝ} (h : ∀ j, entries x j = ((y (-j) : ℝ) : EReal)) (v : FVec Ideal S128x2048 .f32)
    (z : Fin 2) (i : Fin 128) (j : Fin 1024) : spreadRow (accOf x v 15) z i j
      = mix y (chosen x) (fun u => v (ix2 (⟨z.val * 64 + i.val / 2, by omega⟩ : Fin 128) u)) ⟨i.val % 2 * 1024 + j.val, by omega⟩ := accOf_eq h v _ _

theorem product_congr {acc : FVec Ideal S128x2048 .f32} {z : Fin 2} {i : Fin 128} (f : Fin 1024 → EReal) (h : ∀ j, spreadRow acc z i j = f j)
    (wo : S1024x1024.Idx → EReal) (e : Fin 1024) : product acc wo z i e = ∑ j : Fin 1024, f j * wo (ix2 j e) := by
  unfold product
  exact Finset.sum_congr rfl fun j _ => congrArg (fun s : EReal => s * _) (h j)

/-- The place in the weighted sum that row `p` of the result reads. -/
theorem spread_result (hq : ∀ z h t, headQ m c z h t = ((Q z h t : ℝ) : EReal)) (hk : ∀ z h t, headK m c z h t = ((K z h t : ℝ) : EReal))
    (z : Fin 2) (p : Fin 2048) (j : Fin 1024) : spreadRow (launchAcc m c) z ⟨p.val % 128, by omega⟩ j
      = mix (Ref.corr Q K) (chosen (launchRow m c)) (fun u => headV m c z ⟨p.val / 2 % 64, by omega⟩ u) ⟨p.val % 2 * 1024 + j.val, by omega⟩ := by
  have ez : batchOf ⟨z.val * 64 + p.val % 128 / 2, by omega⟩ = z := Fin.ext (by show (z.val * 64 + p.val % 128 / 2) / 64 = z.val; omega)
  have eh : featOf ⟨z.val * 64 + p.val % 128 / 2, by omega⟩ = ⟨p.val / 2 % 64, by omega⟩ :=
    Fin.ext (by show (z.val * 64 + p.val % 128 / 2) % 64 = p.val / 2 % 64; omega)
  have ev : ∀ u, (wide scM0_2 (Memref.isWhole_whole _) (full11 m c) (ix2 (⟨z.val * 64 + p.val % 128 / 2, by omega⟩ : Fin 128) u) : EReal)
      = headV m c z ⟨p.val / 2 % 64, by omega⟩ u := fun u =>
    (wide_full _ _ (full11 m c) (headV m c) (full11_entry m c) _ u).trans (by rw [ez, eh])
  refine (spread_mix (launchRow_entry hq hk) (wide scM0_2 (Memref.isWhole_whole _) (full11 m c)) z _ j).trans ?_
  refine congrArg₂ (fun v t => mix (Ref.corr Q K) (chosen (launchRow m c)) v t) (funext ev) (Fin.ext ?_)
  show p.val % 128 % 2 * 1024 + j.val = p.val % 2 * 1024 + j.val
  omega

theorem resultEntry_mix (hq : ∀ z h t, headQ m c z h t = ((Q z h t : ℝ) : EReal)) (hk : ∀ z h t, headK m c z h t = ((K z h t : ℝ) : EReal))
    (z : Fin 2) (p : Fin 2048) (e : Fin 1024) : resultEntry m c z p e
      = (∑ j : Fin 1024, mix (Ref.corr Q K) (chosen (launchRow m c)) (fun u => headV m c z ⟨p.val / 2 % 64, by omega⟩ u) ⟨p.val % 2 * 1024 + j.val, by omega⟩
          * (m ((c : Thread nD τ).loc main_arg5) (ix2 j e) : EReal)) + (m ((c : Thread nD τ).loc main_arg6) (ix1 e) : EReal) :=
  congrArg (fun s : EReal => s + (m ((c : Thread nD τ).loc main_arg6) (ix1 e) : EReal))
    (product_congr _ (spread_result hq hk z p) (m ((c : Thread nD τ).loc main_arg5)) e)

end Kernel

/-! ## What the precondition gives -/

theorem head_real {x : S2x2048x1024.Idx → EReal} {w : S1024x64.Idx → EReal} {b : S64.Idx → EReal} (hx : ∀ i, ∃ r : ℝ, x i = ((r : ℝ) : EReal))
    (hw : ∀ i, ∃ r : ℝ, w i = ((r : ℝ) : EReal)) (hb : ∀ i, ∃ r : ℝ, b i = ((r : ℝ) : EReal)) :
    ∃ X : Fin 2 → Fin 64 → Fin 2048 → ℝ, ∀ z h t, head x w b z h t = ((X z h t : ℝ) : EReal) := by
  choose xr hx using hx
  choose wr hw using hw
  choose br hb using hb
  refine ⟨fun z h t => (∑ d : Fin 1024, xr (ix3 z t d) * wr (ix2 d h)) + br (ix1 h), fun z h t => ?_⟩
  unfold head
  simp only [hx, hw, hb]
  rw [EReal.coe_add, coe_sum]
  simp only [EReal.coe_mul]

/-- Dividing by a positive constant keeps which lags are above which. -/
theorem top_scale (r : Fin 2048 → ℝ) : top (fun s => r s / 128) = top r := by
  unfold top
  simp only [div_lt_div_iff_of_pos_right (show (0 : ℝ) < 128 by norm_num)]

theorem head_ref (x : S2x2048x1024.Idx → EReal) (w : S1024x64.Idx → EReal) (b : S64.Idx → EReal) (z : Fin 2) (h : Fin 64) (t : Fin 2048) :
    (Ref.headProj (F := Ideal) x w b (ix3 z t h) : EReal) = head x w b z h t := Ref.headProj_apply x w b z t h

theorem head_pre (x : S2x2048x1024.Idx → EReal) (w : S1024x64.Idx → EReal) (b : S64.Idx → EReal) (z : Fin 2) (h : Fin 64) (t : Fin 2048) :
    (Pre.proj x w b (ix3 z t h) : EReal) = head x w b z h t := Pre.proj_apply x w b z t h

/-- The two arrays agree. -/
theorem arrays_agree (m : (ℓ : Loc nD τ sig) → Buf (Elt Ideal) ℓ) (h : Cert.Pre_KernelIdeal_top_lags_determined m) (c : Dev nD) :
    (dats m 0 c).arrAt 7 cfg0.N = Ref.result (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  obtain ⟨hq, hk, hw, hb, htop⟩ := Pre.given_facts (h c)
  obtain ⟨Q, hQ⟩ := head_real hq hw hb
  obtain ⟨K, hK⟩ := head_real hk hw hb
  have hcard : (top (Ref.corr Q K)).card = 15 :=
    (congrArg Finset.card (top_scale fun s => ∑ z, ∑ h, ∑ u, Q z h (u + s) * K z h u)).trans
      (htop _ fun s => Pre.lagSum_real (fun z h t => (head_pre _ _ _ z h t).trans (hQ z h t)) (fun z h t => (head_pre _ _ _ z h t).trans (hK z h t)) s)
  obtain ⟨I, hI, hval⟩ := Ref.result_apply (v := m ((c : Thread nD τ).loc main_arg2)) (m ((c : Thread nD τ).loc main_arg5)) (m ((c : Thread nD τ).loc main_arg6))
    (fun z h t => (head_ref _ _ _ z h t).trans (hQ z h t)) (fun z h t => (head_ref _ _ _ z h t).trans (hK z h t))
  have hJ : IsTop (Ref.corr Q K) (chosen (launchRow m c)) := chosen_top (launchRow_entry hQ hK)
  refine funext fun y => ?_
  obtain ⟨z, p, e, rfl⟩ : ∃ (z : Fin 2) (p : Fin 2048) (e : Fin 1024), y = ix3 z p e := ⟨y 0, y 1, y 2, (by funext a; fin_cases a <;> rfl)⟩
  refine ((array_eq m c (ix3 z p e)).trans (resultEntry_mix hQ hK z p e)).trans (Eq.trans ?_ (hval z p e).symm)
  refine congrArg (fun s : EReal => s + _) (Finset.sum_congr rfl fun j _ => congrArg (fun s : EReal => s * _) ?_)
  refine (mix_eq hJ hI hcard _ _).trans (congrArg (fun v => mix (Ref.corr Q K) I v _) (funext fun u => ?_))
  exact (head_ref _ _ _ z _ u).symm

/-- The idealized kernel and the reference, run from the same arguments, leave the same array. -/
theorem agree : Cert.algebraic_KernelIdeal_ReferenceIdeal_pre_top_lags_determined := by
  intro m g m' g' hpre hargs
  refine ⟨fun c => (dats m 0 c).arrAt 7 cfg0.N, ?_, ?_⟩
  · have hv : θ_run defs (onTc (τ := τ) (main (F := Ideal))) ⟨m, fun _ => 0, g⟩ (fun r => ∀ c : Dev nD,
        r.2.mem ((c.tc : Thread nD τ).loc main_v2) = (dats m 0 c).arrAt 7 cfg0.N) := (θ_run defs _ _).mono (fun r h c => (h c).1 7) (run m g)
    exact (θ_run defs _ _).mono (fun r h c => ⟨h.1 c, h.2 c⟩) (θ_run_and hv (frame_of m g (dats m) (A_eq m) (run m g)))
  · refine (θ_run Cert.ReferenceIdeal.defs _ _).mono (fun r h c => ⟨?_, (h c _).trans (Ref.arg_eq _ _ (by decide)), (h c _).trans (Ref.arg_eq _ _ (by decide)),
      (h c _).trans (Ref.arg_eq _ _ (by decide)), (h c _).trans (Ref.arg_eq _ _ (by decide)), (h c _).trans (Ref.arg_eq _ _ (by decide)),
      (h c _).trans (Ref.arg_eq _ _ (by decide)), (h c _).trans (Ref.arg_eq _ _ (by decide))⟩) (Ref.run_all m' g')
    obtain ⟨h0, h1, h2, h3, h4, h5, h6⟩ := hargs c
    refine ((h c Cert.ReferenceIdeal.main_v134).trans (Ref.result_eq _)).trans (Eq.trans ?_ (arrays_agree m hpre c).symm)
    rw [← h0, ← h1, ← h2, ← h3, ← h4, ← h5, ← h6]

end Cert.Proof

end
-- ==== Proof.lean ====
module

public import proofs.«01_k».proof.Defs
public import proofs.«01_k».proof.Proof.Kernel.Body
public import proofs.«01_k».proof.Proof.Algebra
public import Idealize.ShloMosaic.Adequacy
public import Idealize.ShloMosaic.Init

@[expose] public section

noncomputable section

namespace Cert.Proof

open Idealize.ShloMosaic Idealize.SL.Sem

/-- The mask is read as minus infinity at one site. -/
theorem keeps : Cert.preserves_Kernel_KernelIdeal := IdealRules.named_const.statement _ _ _ _ _ rfl

theorem claim : Cert.Claim := ⟨Cert.Kernel.Gen.facts, Cert.KernelIdeal.Gen.facts, Cert.ReferenceIdeal.Gen.facts, Cert.Proof.Pre.facts,
  fun m ρ _ => Cert.Kernel.Body.frame_quiet m ρ, fun m ρ _ => Cert.KernelIdeal.Body.frame_quiet m ρ,
  fun m ρ _ => Cert.KernelIdeal.Body.frame_quiet m ρ, fun m ρ _ => Cert.Proof.Ref.frame_quiet m ρ,
  fun m ρ _ => Cert.Proof.Ref.frame_quiet m ρ, keeps, agree⟩

end Cert.Proof

end
